-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨3, ![2, 128, 512]⟩ ⟨3, ![64, 128, 512]⟩ 0 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![512, 256]⟩ ⟨2, ![512, 8192]⟩ 1 32 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = Layout.block ⟨2, ![256, 512]⟩ ⟨2, ![8192, 512]⟩ 0 32 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = Layout.block ⟨3, ![2, 128, 512]⟩ ⟨3, ![64, 128, 512]⟩ 0 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v44) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x128x512 : Shape := ⟨3, ![2, 128, 512]⟩
abbrev S512x256 : Shape := ⟨2, ![512, 256]⟩
abbrev S64x128x128x64 : Shape := ⟨4, ![64, 128, 128, 64]⟩
abbrev S256x512 : Shape := ⟨2, ![256, 512]⟩
abbrev S_ : Shape := ⟨0, ![]⟩
abbrev S2x128x128x64 : Shape := ⟨4, ![2, 128, 128, 64]⟩
abbrev S2x32x4x128x64 : Shape := ⟨5, ![2, 32, 4, 128, 64]⟩
abbrev S2x32x128x4x64 : Shape := ⟨5, ![2, 32, 128, 4, 64]⟩
abbrev S2x32x128x256 : Shape := ⟨4, ![2, 32, 128, 256]⟩
abbrev S1x512x256 : Shape := ⟨3, ![1, 512, 256]⟩
abbrev S2x512x256 : Shape := ⟨3, ![2, 512, 256]⟩
abbrev S32x2x512x256 : Shape := ⟨4, ![32, 2, 512, 256]⟩
abbrev S256x256 : Shape := ⟨2, ![256, 256]⟩
abbrev S31 : Shape := ⟨1, ![31]⟩
abbrev S1x2x512x256 : Shape := ⟨4, ![1, 2, 512, 256]⟩
abbrev S128x128 : Shape := ⟨2, ![128, 128]⟩
abbrev S1 : Shape := ⟨1, ![1]⟩
abbrev S1x1x512x256 : Shape := ⟨4, ![1, 1, 512, 256]⟩
abbrev S1x1x128x256 : Shape := ⟨4, ![1, 1, 128, 256]⟩
abbrev S128x256 : Shape := ⟨2, ![128, 256]⟩
abbrev S128x64 : Shape := ⟨2, ![128, 64]⟩
abbrev S128 : Shape := ⟨1, ![128]⟩
abbrev S128x1 : Shape := ⟨2, ![128, 1]⟩

abbrev nBuf : Space → Nat
  | .hbm => 48
  | .vmem => 7
  | .smem => 0
  | _ => 0

abbrev bufTy : (tb : Table) → Fin (tcTables nBuf tb) → BufTy
  | .hbm, ⟨0, _⟩ => ⟨S2x128x512, .f32⟩
  | .hbm, ⟨1, _⟩ => ⟨S512x256, .f32⟩
  | .hbm, ⟨2, _⟩ => ⟨S64x128x128x64, .f32⟩
  | .hbm, ⟨3, _⟩ => ⟨S64x128x128x64, .f32⟩
  | .hbm, ⟨4, _⟩ => ⟨S256x512, .f32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S_, .i1⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S2x128x128x64, .f32⟩
  | .hbm, ⟨22, _⟩ => ⟨S2x128x128x64, .f32⟩
  | .hbm, ⟨23, _⟩ => ⟨S2x32x4x128x64, .f32⟩
  | .hbm, ⟨24, _⟩ => ⟨S2x32x128x4x64, .f32⟩
  | .hbm, ⟨25, _⟩ => ⟨S2x32x128x256, .f32⟩
  | .hbm, ⟨26, _⟩ => ⟨S_, .i32⟩
  | .hbm, ⟨27, _⟩ => ⟨S_, .i32⟩
  | .hbm, ⟨28, _⟩ => ⟨S_, .i32⟩
  | .hbm, ⟨29, _⟩ => ⟨S_, .i1⟩
  | .hbm, ⟨30, _⟩ => ⟨S_, .i32⟩
  | .hbm, ⟨31, _⟩ => ⟨S_, .i32⟩
  | .hbm, ⟨32, _⟩ => ⟨S_, .i32⟩
  | .hbm, ⟨33, _⟩ => ⟨S_, .i32⟩
  | .hbm, ⟨34, _⟩ => ⟨S_, .i32⟩
  | .hbm, ⟨35, _⟩ => ⟨S_, .i32⟩
  | .hbm, ⟨36, _⟩ => ⟨S2x128x128x64, .f32⟩
  | .hbm, ⟨37, _⟩ => ⟨S2x128x128x64, .f32⟩
  | .hbm, ⟨38, _⟩ => ⟨S2x32x4x128x64, .f32⟩
  | .hbm, ⟨39, _⟩ => ⟨S2x32x128x4x64, .f32⟩
  | .hbm, ⟨40, _⟩ => ⟨S2x32x128x256, .f32⟩
  | .hbm, ⟨41, _⟩ => ⟨S256x512, .f32⟩
  | .hbm, ⟨42, _⟩ => ⟨S512x256, .f32⟩
  | .hbm, ⟨43, _⟩ => ⟨S1x512x256, .f32⟩
  | .hbm, ⟨44, _⟩ => ⟨S1x512x256, .f32⟩
  | .hbm, ⟨45, _⟩ => ⟨S2x512x256, .f32⟩
  | .hbm, ⟨46, _⟩ => ⟨S256x512, .f32⟩
  | .hbm, ⟨47, _⟩ => ⟨S2x128x512, .f32⟩
  | .local _ .vmem, ⟨0, _⟩ => ⟨S256x512, .f32⟩
  | .local _ .vmem, ⟨1, _⟩ => ⟨S2x512x256, .f32⟩
  | .local _ .vmem, ⟨2, _⟩ => ⟨S2x32x128x256, .f32⟩
  | .local _ .vmem, ⟨3, _⟩ => ⟨S2x32x128x256, .f32⟩
  | .local _ .vmem, ⟨4, _⟩ => ⟨S256x512, .f32⟩
  | .local _ .vmem, ⟨5, _⟩ => ⟨S32x2x512x256, .f32⟩
  | .local _ .vmem, ⟨6, _⟩ => ⟨S256x256, .f32⟩
  | _, _ => ⟨S2x128x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 67 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | _ => false

abbrev sig : RefSig :=
  (ofTc nBuf bufTy 1 67 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c_1 : Ref sig .tc := ⟨.hbm, 11, rfl⟩
abbrev main_v5 : Ref sig .tc := ⟨.hbm, 12, rfl⟩
abbrev main_c_2 : Ref sig .tc := ⟨.hbm, 13, rfl⟩
abbrev main_v6 : Ref sig .tc := ⟨.hbm, 14, rfl⟩
abbrev main_c_3 : Ref sig .tc := ⟨.hbm, 15, rfl⟩
abbrev main_v7 : Ref sig .tc := ⟨.hbm, 16, rfl⟩
abbrev main_v8 : Ref sig .tc := ⟨.hbm, 17, rfl⟩
abbrev main_c_4 : Ref sig .tc := ⟨.hbm, 18, rfl⟩
abbrev main_c_5 : Ref sig .tc := ⟨.hbm, 19, rfl⟩
abbrev main_c_6 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_c_7 : Ref sig .tc := ⟨.hbm, 26, rfl⟩
abbrev main_v14 : Ref sig .tc := ⟨.hbm, 27, rfl⟩
abbrev main_c_8 : Ref sig .tc := ⟨.hbm, 28, rfl⟩
abbrev main_v15 : Ref sig .tc := ⟨.hbm, 29, rfl⟩
abbrev main_c_9 : Ref sig .tc := ⟨.hbm, 30, rfl⟩
abbrev main_v16 : Ref sig .tc := ⟨.hbm, 31, rfl⟩
abbrev main_v17 : Ref sig .tc := ⟨.hbm, 32, rfl⟩
abbrev main_c_10 : Ref sig .tc := ⟨.hbm, 33, rfl⟩
abbrev main_c_11 : Ref sig .tc := ⟨.hbm, 34, rfl⟩
abbrev main_c_12 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_scratch0 : Ref sig .tc := ⟨.vmem, 5, rfl⟩
abbrev cc0_scratch1 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_6 : BitVec 32 := 1#32
  let v9 : BitVec 32 := Scalar.muli v5 c1_i32_6
  let v10 : BitVec 32 := Scalar.addi c0_i32 v9
  v10.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_8 : BitVec 32 := 1#32
  let v11 : BitVec 32 := Scalar.muli v7 c1_i32_8
  let v12 : BitVec 32 := Scalar.addi c0_i32_9 v11
  v12.toNat
def k0_off1 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v15 : Index := Scalar.indexCast v2
  let c0_12 : Index := 0#32
  let c0_13 : Index := 0#32
  let c0_14 : Index := 0#32
  ![v15.toNat, 0, 0, 0]
@[reducible] def k0_t1_loop : Scf.Loop 32 :=
  let c0_i32_32 : BitVec 32 := 0#32
  let c31_i32 : BitVec 32 := 31#32
  let v81 : BitVec 32 := Scalar.addi c0_i32_32 c31_i32
  let c1_i32_33 : BitVec 32 := 1#32
  ⟨c0_i32_32, v81, c1_i32_33⟩
def k0_off2 (k0_t1 : Fin k0_t1_loop.trips) : Fin 1 → Nat :=
  let c0_i32_32 : BitVec 32 := 0#32
  let c1_i32_33 : BitVec 32 := 1#32
  let arg9 : BitVec 32 := Scf.iv c0_i32_32 c1_i32_33 k0_t1
  ![arg9.toNat]
def k0_off3 (d0 : Dev nD) (k0_t1 : Fin k0_t1_loop.trips) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_32 : BitVec 32 := 0#32
  let c1_i32_33 : BitVec 32 := 1#32
  let arg9 : BitVec 32 := Scf.iv c0_i32_32 c1_i32_33 k0_t1
  let v279 : BitVec 32 := Scalar.subi v2 arg9
  let c32_i32_125 : BitVec 32 := 32#32
  let v280 : BitVec 32 := Scalar.addi v279 c32_i32_125
  let c32_i32_126 : BitVec 32 := 32#32
  let v281 : BitVec 32 := Scalar.remsi v280 c32_i32_126
  let c0_i32_129 : BitVec 32 := 0#32
  let c0_i32_130 : BitVec 32 := 0#32
  let c0_i32_131 : BitVec 32 := 0#32
  ![v281.toNat, 0, 0, 0]
def k0_dev3 (d0 : Dev nD) : Nat :=
  let c0_i32_128 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_127 : BitVec 32 := 1#32
  let v282 : BitVec 32 := Scalar.muli v7 c1_i32_127
  let v283 : BitVec 32 := Scalar.addi c0_i32_128 v282
  v283.toNat
def k0_off4 (d0 : Dev nD) (k0_t1 : Fin k0_t1_loop.trips) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_32 : BitVec 32 := 0#32
  let c1_i32_33 : BitVec 32 := 1#32
  let arg9 : BitVec 32 := Scf.iv c0_i32_32 c1_i32_33 k0_t1
  let v279 : BitVec 32 := Scalar.subi v2 arg9
  let c32_i32_125 : BitVec 32 := 32#32
  let v280 : BitVec 32 := Scalar.addi v279 c32_i32_125
  let c32_i32_126 : BitVec 32 := 32#32
  let v281 : BitVec 32 := Scalar.remsi v280 c32_i32_126
  let v292 : Index := Scalar.indexCast v281
  let c0_135 : Index := 0#32
  let c0_136 : Index := 0#32
  let c0_137 : Index := 0#32
  ![v292.toNat, 0, 0, 0]
def k0_off5 (d0 : Dev nD) (k0_t1 : Fin k0_t1_loop.trips) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_32 : BitVec 32 := 0#32
  let c1_i32_33 : BitVec 32 := 1#32
  let arg9 : BitVec 32 := Scf.iv c0_i32_32 c1_i32_33 k0_t1
  let v279 : BitVec 32 := Scalar.subi v2 arg9
  let c32_i32_125 : BitVec 32 := 32#32
  let v280 : BitVec 32 := Scalar.addi v279 c32_i32_125
  let c32_i32_126 : BitVec 32 := 32#32
  let v281 : BitVec 32 := Scalar.remsi v280 c32_i32_126
  let v295 : Index := Scalar.indexCast v281
  let c1_138 : Index := 1#32
  let c0_139 : Index := 0#32
  let c0_140 : Index := 0#32
  ![v295.toNat, 1, 0, 0]
def k0_off6 (d0 : Dev nD) (k0_t1 : Fin k0_t1_loop.trips) : Fin 4 → Nat :=
  let c0_144 : Index := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_32 : BitVec 32 := 0#32
  let c1_i32_33 : BitVec 32 := 1#32
  let arg9 : BitVec 32 := Scf.iv c0_i32_32 c1_i32_33 k0_t1
  let v279 : BitVec 32 := Scalar.subi v2 arg9
  let c32_i32_125 : BitVec 32 := 32#32
  let v280 : BitVec 32 := Scalar.addi v279 c32_i32_125
  let c32_i32_126 : BitVec 32 := 32#32
  let v281 : BitVec 32 := Scalar.remsi v280 c32_i32_126
  let v301 : Index := Scalar.indexCast v281
  let c0_145 : Index := 0#32
  let c0_146 : Index := 0#32
  ![0, v301.toNat, 0, 0]
def k0_off7 (d0 : Dev nD) (k0_t1 : Fin k0_t1_loop.trips) : Fin 4 → Nat :=
  let c1_182 : Index := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_32 : BitVec 32 := 0#32
  let c1_i32_33 : BitVec 32 := 1#32
  let arg9 : BitVec 32 := Scf.iv c0_i32_32 c1_i32_33 k0_t1
  let v279 : BitVec 32 := Scalar.subi v2 arg9
  let c32_i32_125 : BitVec 32 := 32#32
  let v280 : BitVec 32 := Scalar.addi v279 c32_i32_125
  let c32_i32_126 : BitVec 32 := 32#32
  let v281 : BitVec 32 := Scalar.remsi v280 c32_i32_126
  let v391 : Index := Scalar.indexCast v281
  let c0_183 : Index := 0#32
  let c0_184 : Index := 0#32
  ![1, v391.toNat, 0, 0]
def k0_off8 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_35 : BitVec 32 := 1#32
  let v82 : BitVec 32 := Scalar.addi v2 c1_i32_35
  let c32_i32_36 : BitVec 32 := 32#32
  let v83 : BitVec 32 := Scalar.remsi v82 c32_i32_36
  let v84 : Index := Scalar.indexCast v83
  let c0_37 : Index := 0#32
  let c0_38 : Index := 0#32
  let c0_39 : Index := 0#32
  ![v84.toNat, 0, 0, 0]
def k0_off9 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_35 : BitVec 32 := 1#32
  let v82 : BitVec 32 := Scalar.addi v2 c1_i32_35
  let c32_i32_36 : BitVec 32 := 32#32
  let v83 : BitVec 32 := Scalar.remsi v82 c32_i32_36
  let v87 : Index := Scalar.indexCast v83
  let c1 : Index := 1#32
  let c0_40 : Index := 0#32
  let c0_41 : Index := 0#32
  ![v87.toNat, 1, 0, 0]
def k0_off10 (d0 : Dev nD) : Fin 4 → Nat :=
  let c0_45 : Index := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_35 : BitVec 32 := 1#32
  let v82 : BitVec 32 := Scalar.addi v2 c1_i32_35
  let c32_i32_36 : BitVec 32 := 32#32
  let v83 : BitVec 32 := Scalar.remsi v82 c32_i32_36
  let v93 : Index := Scalar.indexCast v83
  let c0_46 : Index := 0#32
  let c0_47 : Index := 0#32
  ![0, v93.toNat, 0, 0]
def k0_off11 (d0 : Dev nD) : Fin 4 → Nat :=
  let c1_80 : Index := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_35 : BitVec 32 := 1#32
  let v82 : BitVec 32 := Scalar.addi v2 c1_i32_35
  let c32_i32_36 : BitVec 32 := 32#32
  let v83 : BitVec 32 := Scalar.remsi v82 c32_i32_36
  let v183 : Index := Scalar.indexCast v83
  let c0_81 : Index := 0#32
  let c0_82 : Index := 0#32
  ![1, v183.toNat, 0, 0]
abbrev stage0_0 : Fin 1 → Memref sig .tc .vmem S256x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x32x128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x32x128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S64x128x512 : Shape := ⟨3, ![64, 128, 512]⟩
abbrev S512x8192 : Shape := ⟨2, ![512, 8192]⟩
abbrev S64x128x128x64 : Shape := ⟨4, ![64, 128, 128, 64]⟩
abbrev S8192x512 : Shape := ⟨2, ![8192, 512]⟩
abbrev S64x128x8192 : Shape := ⟨3, ![64, 128, 8192]⟩
abbrev S128 : Shape := ⟨1, ![128]⟩
abbrev S_ : Shape := ⟨0, ![]⟩
abbrev S128x1 : Shape := ⟨2, ![128, 1]⟩
abbrev S1x128 : Shape := ⟨2, ![1, 128]⟩
abbrev S128x128 : Shape := ⟨2, ![128, 128]⟩
abbrev S64x128x128x128 : Shape := ⟨4, ![64, 128, 128, 128]⟩
abbrev S1x1x128x128 : Shape := ⟨4, ![1, 1, 128, 128]⟩
abbrev S64x128x128 : Shape := ⟨3, ![64, 128, 128]⟩
abbrev S64x128x128x1 : Shape := ⟨4, ![64, 128, 128, 1]⟩
abbrev S1x1x128x1 : Shape := ⟨4, ![1, 1, 128, 1]⟩
abbrev S64x128x64x128 : Shape := ⟨4, ![64, 128, 64, 128]⟩

abbrev nBuf : Space → Nat
  | .hbm => 123
  | .vmem => 0
  | .smem => 0
  | _ => 0

abbrev bufTy : (tb : Table) → Fin (tcTables nBuf tb) → BufTy
  | .hbm, ⟨0, _⟩ => ⟨S64x128x512, .f32⟩
  | .hbm, ⟨1, _⟩ => ⟨S512x8192, .f32⟩
  | .hbm, ⟨2, _⟩ => ⟨S64x128x128x64, .f32⟩
  | .hbm, ⟨3, _⟩ => ⟨S64x128x128x64, .f32⟩
  | .hbm, ⟨4, _⟩ => ⟨S8192x512, .f32⟩
  | .hbm, ⟨5, _⟩ => ⟨S64x128x8192, .f32⟩
  | .hbm, ⟨6, _⟩ => ⟨S64x128x128x64, .f32⟩
  | .hbm, ⟨7, _⟩ => ⟨S128, .i32⟩
  | .hbm, ⟨8, _⟩ => ⟨S_, .i32⟩
  | .hbm, ⟨9, _⟩ => ⟨S_, .i32⟩
  | .hbm, ⟨10, _⟩ => ⟨S128, .i32⟩
  | .hbm, ⟨11, _⟩ => ⟨S128, .i32⟩
  | .hbm, ⟨12, _⟩ => ⟨S128, .i32⟩
  | .hbm, ⟨13, _⟩ => ⟨S_, .i32⟩
  | .hbm, ⟨14, _⟩ => ⟨S128, .i32⟩
  | .hbm, ⟨15, _⟩ => ⟨S128, .i1⟩
  | .hbm, ⟨16, _⟩ => ⟨S128, .i32⟩
  | .hbm, ⟨17, _⟩ => ⟨S128, .i32⟩
  | .hbm, ⟨18, _⟩ => ⟨S_, .i32⟩
  | .hbm, ⟨19, _⟩ => ⟨S128, .i32⟩
  | .hbm, ⟨20, _⟩ => ⟨S128, .i1⟩
  | .hbm, ⟨21, _⟩ => ⟨S128, .i1⟩
  | .hbm, ⟨22, _⟩ => ⟨S_, .i32⟩
  | .hbm, ⟨23, _⟩ => ⟨S128, .i32⟩
  | .hbm, ⟨24, _⟩ => ⟨S128, .i32⟩
  | .hbm, ⟨25, _⟩ => ⟨S128, .i32⟩
  | .hbm, ⟨26, _⟩ => ⟨S128x1, .i32⟩
  | .hbm, ⟨27, _⟩ => ⟨S128, .i32⟩
  | .hbm, ⟨28, _⟩ => ⟨S_, .i32⟩
  | .hbm, ⟨29, _⟩ => ⟨S_, .i32⟩
  | .hbm, ⟨30, _⟩ => ⟨S128, .i32⟩
  | .hbm, ⟨31, _⟩ => ⟨S128, .i32⟩
  | .hbm, ⟨32, _⟩ => ⟨S128, .i32⟩
  | .hbm, ⟨33, _⟩ => ⟨S_, .i32⟩
  | .hbm, ⟨34, _⟩ => ⟨S128, .i32⟩
  | .hbm, ⟨35, _⟩ => ⟨S128, .i1⟩
  | .hbm, ⟨36, _⟩ => ⟨S128, .i32⟩
  | .hbm, ⟨37, _⟩ => ⟨S128, .i32⟩
  | .hbm, ⟨38, _⟩ => ⟨S_, .i32⟩
  | .hbm, ⟨39, _⟩ => ⟨S128, .i32⟩
  | .hbm, ⟨40, _⟩ => ⟨S128, .i1⟩
  | .hbm, ⟨41, _⟩ => ⟨S128, .i1⟩
  | .hbm, ⟨42, _⟩ => ⟨S_, .i32⟩
  | .hbm, ⟨43, _⟩ => ⟨S128, .i32⟩
  | .hbm, ⟨44, _⟩ => ⟨S128, .i32⟩
  | .hbm, ⟨45, _⟩ => ⟨S128, .i32⟩
  | .hbm, ⟨46, _⟩ => ⟨S1x128, .i32⟩
  | .hbm, ⟨47, _⟩ => ⟨S128x128, .i32⟩
  | .hbm, ⟨48, _⟩ => ⟨S128x128, .i32⟩
  | .hbm, ⟨49, _⟩ => ⟨S128x128, .i1⟩
  | .hbm, ⟨50, _⟩ => ⟨S_, .i32⟩
  | .hbm, ⟨51, _⟩ => ⟨S1x128, .i32⟩
  | .hbm, ⟨52, _⟩ => ⟨S1x128, .i1⟩
  | .hbm, ⟨53, _⟩ => ⟨S128x128, .i1⟩
  | .hbm, ⟨54, _⟩ => ⟨S128x128, .i1⟩
  | .hbm, ⟨55, _⟩ => ⟨S128x128, .i32⟩
  | .hbm, ⟨56, _⟩ => ⟨S128x128, .i32⟩
  | .hbm, ⟨57, _⟩ => ⟨S128x128, .i32⟩
  | .hbm, ⟨58, _⟩ => ⟨S_, .i32⟩
  | .hbm, ⟨59, _⟩ => ⟨S_, .i32⟩
  | .hbm, ⟨60, _⟩ => ⟨S_, .i32⟩
  | .hbm, ⟨61, _⟩ => ⟨S_, .i1⟩
  | .hbm, ⟨62, _⟩ => ⟨S_, .i32⟩
  | .hbm, ⟨63, _⟩ => ⟨S_, .i32⟩
  | .hbm, ⟨64, _⟩ => ⟨S128x128, .i32⟩
  | .hbm, ⟨65, _⟩ => ⟨S128x128, .i32⟩
  | .hbm, ⟨66, _⟩ => ⟨S_, .i32⟩
  | .hbm, ⟨67, _⟩ => ⟨S128x128, .i32⟩
  | .hbm, ⟨68, _⟩ => ⟨S128x128, .i1⟩
  | .hbm, ⟨69, _⟩ => ⟨S_, .i32⟩
  | .hbm, ⟨70, _⟩ => ⟨S128x128, .i32⟩
  | .hbm, ⟨71, _⟩ => ⟨S128x128, .i1⟩
  | .hbm, ⟨72, _⟩ => ⟨S_, .i32⟩
  | .hbm, ⟨73, _⟩ => ⟨S_, .i1⟩
  | .hbm, ⟨74, _⟩ => ⟨S128x128, .i1⟩
  | .hbm, ⟨75, _⟩ => ⟨S128x128, .i1⟩
  | .hbm, ⟨76, _⟩ => ⟨S128x128, .i1⟩
  | .hbm, ⟨77, _⟩ => ⟨S128x128, .i32⟩
  | .hbm, ⟨78, _⟩ => ⟨S128x128, .i32⟩
  | .hbm, ⟨79, _⟩ => ⟨S128x128, .i32⟩
  | .hbm, ⟨80, _⟩ => ⟨S_, .i32⟩
  | .hbm, ⟨81, _⟩ => ⟨S128x128, .i32⟩
  | .hbm, ⟨82, _⟩ => ⟨S128x128, .i1⟩
  | .hbm, ⟨83, _⟩ => ⟨S128x128, .i1⟩
  | .hbm, ⟨84, _⟩ => ⟨S64x128x128x128, .f32⟩
  | .hbm, ⟨85, _⟩ => ⟨S_, .f32⟩
  | .hbm, ⟨86, _⟩ => ⟨S64x128x128x128, .f32⟩
  | .hbm, ⟨87, _⟩ => ⟨S64x128x128x128, .f32⟩
  | .hbm, ⟨88, _⟩ => ⟨S1x1x128x128, .i1⟩
  | .hbm, ⟨89, _⟩ => ⟨S_, .f32⟩
  | .hbm, ⟨90, _⟩ => ⟨S_, .f32⟩
  | .hbm, ⟨91, _⟩ => ⟨S64x128x128x128, .i1⟩
  | .hbm, ⟨92, _⟩ => ⟨S64x128x128x128, .f32⟩
  | .hbm, ⟨93, _⟩ => ⟨S64x128x128x128, .f32⟩
  | .hbm, ⟨94, _⟩ => ⟨S_, .f32⟩
  | .hbm, ⟨95, _⟩ => ⟨S64x128x128, .f32⟩
  | .hbm, ⟨96, _⟩ => ⟨S64x128x128x1, .f32⟩
  | .hbm, ⟨97, _⟩ => ⟨S64x128x128x128, .f32⟩
  | .hbm, ⟨98, _⟩ => ⟨S64x128x128x128, .f32⟩
  | .hbm, ⟨99, _⟩ => ⟨S64x128x128x128, .f32⟩
  | .hbm, ⟨100, _⟩ => ⟨S_, .i1⟩
  | .hbm, ⟨101, _⟩ => ⟨S128, .i1⟩
  | .hbm, ⟨102, _⟩ => ⟨S1x1x128x1, .i1⟩
  | .hbm, ⟨103, _⟩ => ⟨S_, .f32⟩
  | .hbm, ⟨104, _⟩ => ⟨S64x128x128, .f32⟩
  | .hbm, ⟨105, _⟩ => ⟨S64x128x128x1, .f32⟩
  | .hbm, ⟨106, _⟩ => ⟨S_, .f32⟩
  | .hbm, ⟨107, _⟩ => ⟨S_, .f32⟩
  | .hbm, ⟨108, _⟩ => ⟨S64x128x128x1, .i1⟩
  | .hbm, ⟨109, _⟩ => ⟨S64x128x128x1, .f32⟩
  | .hbm, ⟨110, _⟩ => ⟨S64x128x128x1, .f32⟩
  | .hbm, ⟨111, _⟩ => ⟨S64x128x128x128, .f32⟩
  | .hbm, ⟨112, _⟩ => ⟨S64x128x128x128, .f32⟩
  | .hbm, ⟨113, _⟩ => ⟨S1x1x128x1, .i1⟩
  | .hbm, ⟨114, _⟩ => ⟨S_, .f32⟩
  | .hbm, ⟨115, _⟩ => ⟨S_, .f32⟩
  | .hbm, ⟨116, _⟩ => ⟨S64x128x128x128, .i1⟩
  | .hbm, ⟨117, _⟩ => ⟨S64x128x128x128, .f32⟩
  | .hbm, ⟨118, _⟩ => ⟨S64x128x128x128, .f32⟩
  | .hbm, ⟨119, _⟩ => ⟨S64x128x64x128, .f32⟩
  | .hbm, ⟨120, _⟩ => ⟨S64x128x128x64, .f32⟩
  | .hbm, ⟨121, _⟩ => ⟨S64x128x8192, .f32⟩
  | .hbm, ⟨122, _⟩ => ⟨S64x128x512, .f32⟩
  | _, _ => ⟨S64x128x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_c : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_0 : Ref sig .tc := ⟨.hbm, 22, rfl⟩
abbrev main_call0_v12 : Ref sig .tc := ⟨.hbm, 23, rfl⟩
abbrev main_call0_v13 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_c_0 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_v5 : Ref sig .tc := ⟨.hbm, 34, rfl⟩
abbrev main_call1_v6 : Ref sig .tc := ⟨.hbm, 35, rfl⟩
abbrev main_call1_v7 : Ref sig .tc := ⟨.hbm, 36, rfl⟩
abbrev main_call1_v8 : Ref sig .tc := ⟨.hbm, 37, rfl⟩
abbrev main_call1_c : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_c_0 : Ref sig .tc := ⟨.hbm, 42, rfl⟩
abbrev main_call1_v12 : Ref sig .tc := ⟨.hbm, 43, rfl⟩
abbrev main_call1_v13 : Ref sig .tc := ⟨.hbm, 44, rfl⟩
abbrev main_v6 : Ref sig .tc := ⟨.hbm, 45, rfl⟩
abbrev main_v7 : Ref sig .tc := ⟨.hbm, 46, rfl⟩
abbrev main_v8 : Ref sig .tc := ⟨.hbm, 47, rfl⟩
abbrev main_v9 : Ref sig .tc := ⟨.hbm, 48, rfl⟩
abbrev main_v10 : Ref sig .tc := ⟨.hbm, 49, rfl⟩
abbrev main_c_1 : Ref sig .tc := ⟨.hbm, 50, rfl⟩
abbrev main_v11 : Ref sig .tc := ⟨.hbm, 51, rfl⟩
abbrev main_v12 : Ref sig .tc := ⟨.hbm, 52, rfl⟩
abbrev main_v13 : Ref sig .tc := ⟨.hbm, 53, rfl⟩
abbrev main_v14 : Ref sig .tc := ⟨.hbm, 54, rfl⟩
abbrev main_v15 : Ref sig .tc := ⟨.hbm, 55, rfl⟩
abbrev main_v16 : Ref sig .tc := ⟨.hbm, 56, rfl⟩
abbrev main_v17 : Ref sig .tc := ⟨.hbm, 57, rfl⟩
abbrev main_c_2 : Ref sig .tc := ⟨.hbm, 58, rfl⟩
abbrev main_call2_v0 : Ref sig .tc := ⟨.hbm, 59, rfl⟩
abbrev main_call2_c : Ref sig .tc := ⟨.hbm, 60, rfl⟩
abbrev main_call2_v1 : Ref sig .tc := ⟨.hbm, 61, rfl⟩
abbrev main_call2_c_0 : Ref sig .tc := ⟨.hbm, 62, rfl⟩
abbrev main_call2_v2 : Ref sig .tc := ⟨.hbm, 63, rfl⟩
abbrev main_call2_v3 : Ref sig .tc := ⟨.hbm, 64, rfl⟩
abbrev main_call2_v4 : Ref sig .tc := ⟨.hbm, 65, rfl⟩
abbrev main_call2_c_1 : Ref sig .tc := ⟨.hbm, 66, rfl⟩
abbrev main_call2_v5 : Ref sig .tc := ⟨.hbm, 67, rfl⟩
abbrev main_call2_v6 : Ref sig .tc := ⟨.hbm, 68, rfl⟩
abbrev main_call2_c_2 : Ref sig .tc := ⟨.hbm, 69, rfl⟩
abbrev main_call2_v7 : Ref sig .tc := ⟨.hbm, 70, rfl⟩
abbrev main_call2_v8 : Ref sig .tc := ⟨.hbm, 71, rfl⟩
abbrev main_call2_c_3 : Ref sig .tc := ⟨.hbm, 72, rfl⟩
abbrev main_call2_v9 : Ref sig .tc := ⟨.hbm, 73, rfl⟩
abbrev main_call2_v10 : Ref sig .tc := ⟨.hbm, 74, rfl⟩
abbrev main_call2_v11 : Ref sig .tc := ⟨.hbm, 75, rfl⟩
abbrev main_call2_v12 : Ref sig .tc := ⟨.hbm, 76, rfl⟩
abbrev main_call2_v13 : Ref sig .tc := ⟨.hbm, 77, rfl⟩
abbrev main_call2_v14 : Ref sig .tc := ⟨.hbm, 78, rfl⟩
abbrev main_v18 : Ref sig .tc := ⟨.hbm, 79, rfl⟩
abbrev main_c_3 : Ref sig .tc := ⟨.hbm, 80, rfl⟩
abbrev main_v19 : Ref sig .tc := ⟨.hbm, 81, rfl⟩
abbrev main_v20 : Ref sig .tc := ⟨.hbm, 82, rfl⟩
abbrev main_v21 : Ref sig .tc := ⟨.hbm, 83, rfl⟩
abbrev main_v22 : Ref sig .tc := ⟨.hbm, 84, rfl⟩
abbrev main_cst : Ref sig .tc := ⟨.hbm, 85, rfl⟩
abbrev main_v23 : Ref sig .tc := ⟨.hbm, 86, rfl⟩
abbrev main_v24 : Ref sig .tc := ⟨.hbm, 87, rfl⟩
abbrev main_v25 : Ref sig .tc := ⟨.hbm, 88, rfl⟩
abbrev main_cst_4 : Ref sig .tc := ⟨.hbm, 89, rfl⟩
abbrev main_call3_v0 : Ref sig .tc := ⟨.hbm, 90, rfl⟩
abbrev main_call3_v1 : Ref sig .tc := ⟨.hbm, 91, rfl⟩
abbrev main_call3_v2 : Ref sig .tc := ⟨.hbm, 92, rfl⟩
abbrev main_v26 : Ref sig .tc := ⟨.hbm, 93, rfl⟩
abbrev main_cst_5 : Ref sig .tc := ⟨.hbm, 94, rfl⟩
abbrev main_v27 : Ref sig .tc := ⟨.hbm, 95, rfl⟩
abbrev main_v28 : Ref sig .tc := ⟨.hbm, 96, rfl⟩
abbrev main_v29 : Ref sig .tc := ⟨.hbm, 97, rfl⟩
abbrev main_v30 : Ref sig .tc := ⟨.hbm, 98, rfl⟩
abbrev main_v31 : Ref sig .tc := ⟨.hbm, 99, rfl⟩
abbrev main_c_6 : Ref sig .tc := ⟨.hbm, 100, rfl⟩
abbrev main_v32 : Ref sig .tc := ⟨.hbm, 101, rfl⟩
abbrev main_v33 : Ref sig .tc := ⟨.hbm, 102, rfl⟩
abbrev main_cst_7 : Ref sig .tc := ⟨.hbm, 103, rfl⟩
abbrev main_v34 : Ref sig .tc := ⟨.hbm, 104, rfl⟩
abbrev main_v35 : Ref sig .tc := ⟨.hbm, 105, rfl⟩
abbrev main_cst_8 : Ref sig .tc := ⟨.hbm, 106, rfl⟩
abbrev main_call4_v0 : Ref sig .tc := ⟨.hbm, 107, rfl⟩
abbrev main_call4_v1 : Ref sig .tc := ⟨.hbm, 108, rfl⟩
abbrev main_call4_v2 : Ref sig .tc := ⟨.hbm, 109, rfl⟩
abbrev main_v36 : Ref sig .tc := ⟨.hbm, 110, rfl⟩
abbrev main_v37 : Ref sig .tc := ⟨.hbm, 111, rfl⟩
abbrev main_v38 : Ref sig .tc := ⟨.hbm, 112, rfl⟩
abbrev main_v39 : Ref sig .tc := ⟨.hbm, 113, rfl⟩
abbrev main_cst_9 : Ref sig .tc := ⟨.hbm, 114, rfl⟩
abbrev main_call5_v0 : Ref sig .tc := ⟨.hbm, 115, rfl⟩
abbrev main_call5_v1 : Ref sig .tc := ⟨.hbm, 116, rfl⟩
abbrev main_call5_v2 : Ref sig .tc := ⟨.hbm, 117, rfl⟩
abbrev main_v40 : Ref sig .tc := ⟨.hbm, 118, rfl⟩
abbrev main_v41 : Ref sig .tc := ⟨.hbm, 119, rfl⟩
abbrev main_v42 : Ref sig .tc := ⟨.hbm, 120, rfl⟩
abbrev main_v43 : Ref sig .tc := ⟨.hbm, 121, rfl⟩
abbrev main_v44 : Ref sig .tc := ⟨.hbm, 122, rfl⟩

abbrev nD : Nat := 1
abbrev τ : Topo := Topo.v7x

variable {F : FTy → Type} [FloatOps F]
-- ==== Proof.KernelIdeal.Proto.lean ====
/-
  The ring protocol of the kernel: thirty-two devices, each passing packed weights to its right neighbour in
  thirty-one hops.  The cells are each device's barrier semaphore and its thirty-one send and thirty-one receive
  semaphores; the schedule says what is handed over with each unit.  Stated over the contents `G` of the whole
  communication buffer: slot `s` of every device ends up holding slot `s` of `G` (device `s`'s packed weights).
-/
module

public import proofs.«01_k».proof.Proof.Gen.KernelIdeal.Skeleton
public import proofs.«01_k».proof.Proof.Gen.KernelIdeal.Loops
public import proofs.«01_k».proof.Proof.Gen.KernelIdeal.Points
public import proofs.«01_k».proof.Proof.Gen.KernelIdeal.Launch
public import proofs.«01_k».proof.Proof.Gen.KernelIdeal.Regions
public import Idealize.ShloMosaic.Lib.Rounds
public import Idealize.ShloMosaic.Lib.Tactic
public import Idealize.ShloMosaic.Lib.Ring
public import Idealize.ShloMosaic.Lib.Pipeline.RegionTalk

@[expose] public section

noncomputable section

namespace Cert.KernelIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

/-! ## The ring and the hops -/

/-- A hop: a trip of the kernel's loop. -/
abbrev Hop : Type := Fin k0_t1_loop.trips

/-- The loop makes thirty-one trips. -/
theorem trips_eq : k0_t1_loop.trips = 31 := by decide

/-- The right neighbour. -/
def nxt (c : Dev nD) : Dev nD := ⟨(c.val + 1) % 32, Nat.mod_lt _ (by decide)⟩
/-- The left neighbour. -/
def prv (c : Dev nD) : Dev nD := ⟨(c.val + 31) % 32, Nat.mod_lt _ (by decide)⟩

/-- The left neighbour of the right neighbour is the device itself; -/
theorem prv_nxt (c : Dev nD) : prv (nxt c) = c := by revert c; decide
/-- and the other way round. -/
theorem nxt_prv (c : Dev nD) : nxt (prv c) = c := by revert c; decide

/-- The ring as a permutation of the devices. -/
def ring : Dev nD ≃ Dev nD := ⟨nxt, prv, prv_nxt, nxt_prv⟩

/-- The first barrier signal goes to the left neighbour; -/
theorem dev1_eq (c : Dev nD) : (⟨k0_dev1 c, k0_dev1_lt c⟩ : Dev nD) = prv c := Fin.ext (k0_dev1_eq c)
/-- the second to the right neighbour; -/
theorem dev2_eq (c : Dev nD) : (⟨k0_dev2 c, k0_dev2_lt c⟩ : Dev nD) = nxt c := Fin.ext (k0_dev2_eq c)
/-- and each copy to the right neighbour. -/
theorem dev3_eq (c : Dev nD) : (⟨k0_dev3 c, k0_dev3_lt c⟩ : Dev nD) = nxt c := Fin.ext (k0_dev3_eq c)

/-- The slot device `c` computes on in trip `k` and passes on: device `c - k`'s weights. -/
def slotAt (c : Dev nD) (k : ℕ) : Fin 32 := ⟨(c.val + 32 - k) % 32, Nat.mod_lt _ (by decide)⟩

/-- The first slot a device uses is its own. -/
theorem slotAt_zero (c : Dev nD) : slotAt c 0 = c := Fin.ext (by unfold slotAt; dsimp only; have : c.val < 32 := c.isLt; omega)
/-- The slot a device sends in one hop is the one its right neighbour uses next. -/
theorem slotAt_nxt (c : Dev nD) (k : ℕ) (hk : k < 31) : slotAt (nxt c) (k + 1) = slotAt c k :=
  Fin.ext (by unfold slotAt nxt; dsimp only; have : c.val < 32 := c.isLt; omega)
/-- The slot its left neighbour sends in one hop is the one a device uses next. -/
theorem slotAt_prv (c : Dev nD) (k : ℕ) (hk : k < 31) : slotAt (prv c) k = slotAt c (k + 1) := by
  rw [← slotAt_nxt (prv c) k hk, nxt_prv]
/-- The last slot a device uses is its right neighbour's. -/
theorem slotAt_last (c : Dev nD) : slotAt c 31 = nxt c := Fin.ext (by unfold slotAt nxt; dsimp only; have : c.val < 32 := c.isLt; omega)
/-- The slots a device uses are pairwise different. -/
theorem slotAt_inj (c : Dev nD) (j k : ℕ) (hj : j ≤ 31) (hk : k ≤ 31) (h : slotAt c j = slotAt c k) : j = k := by
  have := congrArg Fin.val h; unfold slotAt at this; dsimp only at this; have : c.val < 32 := c.isLt; omega

/-! ## Semaphores and cells -/

/-- The barrier semaphore. -/
abbrev barS : Sem sig := (SemArray.scalar (sig.barrier 0 rfl) : Sems sig S_).sem
/-- The semaphore hop `t` counts its departure on. -/
abbrev sendS (t : Hop) : DmaSem sig :=
  ((cc0_scratch2.slice (Rect.unit (s := S31) (k0_off2 t) S1.size (k0_off2_inb t))).squeeze S_ squeezes_S1_S_).sem
/-- The semaphore hop `t` counts its arrival on. -/
abbrev recvS (t : Hop) : DmaSem sig :=
  ((cc0_scratch3.slice (Rect.unit (s := S31) (k0_off2 t) S1.size (k0_off2_inb t))).squeeze S_ squeezes_S1_S_).sem

/-- The number of a hop's send semaphore; -/
theorem sendS_val (t : Hop) : (sendS t).val = 5 + t.val := by revert t; decide +kernel
/-- and of its receive semaphore. -/
theorem recvS_val (t : Hop) : (recvS t).val = 36 + t.val := by revert t; decide +kernel

/-- Device `c`'s barrier counter; -/
abbrev barCell (c : Dev nD) : GSem nD τ sig := ((c : Thread nD τ), .reg barS)
/-- its send counter of hop `t`; -/
abbrev sendCell (c : Dev nD) (t : Hop) : GSem nD τ sig := ((c : Thread nD τ), .dma (sendS t))
/-- and its receive counter of hop `t`. -/
abbrev recvCell (c : Dev nD) (t : Hop) : GSem nD τ sig := ((c : Thread nD τ), .dma (recvS t))

/-! ## Resources -/

/-- The resource of the pipeline's protocol and of the ring's (two duties to tell apart on a barrier cell). -/
abbrev UU : Type := UR sig nD τ × URounds (GSem nD τ sig) Bool

local notation "𝕄" => MT nD τ sig Unit (Elt F) ℕ UU ℕ

/-- Where the pipeline's protocol lies in the resource; -/
abbrev EP : Emb (UR sig nD τ) (MT nD τ sig Unit (Elt F) ℕ UU ℕ) := embL
/-- and where the ring's lies. -/
abbrev ER : Emb (URounds (GSem nD τ sig) Bool) (MT nD τ sig Unit (Elt F) ℕ UU ℕ) := embR

/-- The communication buffer, thirty-two slots. -/
abbrev commM : Memref sig .tc .vmem S32x2x512x256 .f32 := Memref.whole cc0_scratch0

/-- The elements of slot `s`. -/
def slotSet (s : Fin 32) : Finset S32x2x512x256.Idx := Finset.univ.filter fun i => (i 0).val = s.val

/-- An index is in slot `s` when its first coordinate is `s`. -/
theorem mem_slotSet (s : Fin 32) (i : S32x2x512x256.Idx) : i ∈ slotSet s ↔ (i 0).val = s.val := by
  unfold slotSet; rw [Finset.mem_filter]; exact ⟨fun h => h.2, fun h => ⟨Finset.mem_univ _, h⟩⟩

/-- The whole of the communication buffer's contents. -/
abbrev CommC : Type := (cc0_scratch0 : Ref sig .tc).ty.Contents (Elt F)

/-- Slot `s` of device `c`'s communication buffer, held at share `q`, as in the contents `f`. -/
def slotPts (c : Dev nD) (s : Fin 32) (q : PosShare TreeShare) (f : CommC (F := F)) : sProp 𝕄 :=
  (commM.view.loc (c : Thread nD τ)) ↦[slotSet s]{q} (f : Buf (Elt F) (commM.view.loc (c : Thread nD τ)))

/-- A slot's ownership may be put into an invariant. -/
instance slotPts_storable (c : Dev nD) (s : Fin 32) (q : PosShare TreeShare) (f : CommC (F := F)) :
    BI.Storable (upEmb : UEmb _ 𝕄) (slotPts c s q f) := by unfold slotPts; infer_instance

/-- The copied views: slot of hop `t` on device `c`, as the kernel's transfers name it. -/
abbrev hopV (c : Dev nD) (t : Hop) : Memref sig .tc .vmem S2x512x256 .f32 :=
  (commM.slice (Rect.unit (s := S32x2x512x256) (k0_off3 c t) S1x2x512x256.size (k0_off3_inb c t)) (fun _ => rfl)).squeeze
    S2x512x256 squeezes_S1x2x512x256_S2x512x256

/-- The view of hop `t` covers slot `slotAt c t`. -/
theorem hopV_set (c : Dev nD) (t : Hop) : (hopV c t).view.set = slotSet (slotAt c t.val) := by
  unfold hopV
  rw [Memref.set_view_squeeze]
  show ((View.whole cc0_scratch0).slice (Rect.unit (s := S32x2x512x256) (k0_off3 c t) S1x2x512x256.size (k0_off3_inb c t))).set = _
  rw [View.set_slice_whole]
  ext i
  rw [mem_slotSet, Rect.mem_set_unit]
  simp only [k0_off3_eq]
  constructor
  · intro h
    have h0 := h (0 : Fin 4)
    simp only [Matrix.cons_val_zero, S1x2x512x256] at h0
    unfold slotAt; dsimp only; omega
  · intro h a
    have hi : (i a).val < S32x2x512x256.size a := (i a).isLt
    unfold slotAt at h; dsimp only at h
    fin_cases a <;> simp [S1x2x512x256, S32x2x512x256] at hi h ⊢ <;> omega

/-- The units one transfer counts. -/
def N : ℕ := (cc0_scratch0 : Ref sig .tc).dmaCredit S2x512x256 .f32
/-- Every hop's copy credits the same amount; -/
theorem hop_credit (c : Dev nD) (t : Hop) : (hopV c t).view.dmaCredit = N := by
  rw [← View.dmaCredit_ref]; rfl
/-- which is positive. -/
theorem N_pos : 0 < N := by rw [← hop_credit 0 ⟨0, by decide⟩]; exact View.dmaCredit_pos _ (by decide)

/-! ## The schedule -/

variable (G : CommC (F := F))

/-- Handed to device `c` by its right neighbour at the barrier: the neighbour's slots `c` is to write, and that the
    neighbour's receive cells are open. -/
def barPay (c : Dev nD) : sProp 𝕄 :=
  bigSep Finset.univ fun t : Hop => iprop((∃ f, slotPts (nxt c) (slotAt c t.val) fullShare f) ∗ reached ER (recvCell (nxt c) t) 0)
/-- Handed to device `c` by the arrival of hop `t`: the slot, holding its owner's packed weights. -/
def recvPay (c : Dev nD) (k : ℕ) : sProp 𝕄 := slotPts c (slotAt c (k + 1)) fullShare G
/-- Handed back to device `c` by the departure of hop `t`: the half share lent to the transfer. -/
def sendPay (c : Dev nD) (k : ℕ) : sProp 𝕄 := slotPts c (slotAt c k) fullShare.left G

/-- The payload a DMA semaphore's unit carries, by the semaphore's index. -/
def dmaPay (c : Dev nD) (n : ℕ) : sProp 𝕄 := if n < 36 then sendPay G c (n - 5) else recvPay G c (n - 36)

/-- Cells of the protocol: barrier, send and receive cells of every device. -/
def isDma (g : GSem nD τ sig) : Prop := g.1.2 = .tc ∧ ∃ t : Hop, g.2 = .dma (sendS t) ∨ g.2 = .dma (recvS t)
/-- Whether a cell is a hop's can be decided. -/
instance (g : GSem nD τ sig) : Decidable (isDma g) := by unfold isDma; infer_instance

/-- One round on every cell: two duties on a barrier cell, one on a send or receive cell. -/
def ringRd : Rounds.Schedule (GSem nD τ sig) Bool 𝕄 where
  duties g r := if r = 0 then (if g.1.2 = .tc ∧ g.2 = .reg barS then Finset.univ else if isDma g then {true} else ∅) else ∅
  unitless _ := False
  amount g _ _ := if g.2 = .reg barS then 1 else N
  payload g _ d := match g.2 with
    | .reg _ => if d then barPay g.1.1 else iprop(emp)
    | .dma s => dmaPay G g.1.1 s.val
  amount_pos g _ _ _ := by
    by_cases h : g.2 = .reg barS
    · rw [if_pos h]; exact Nat.one_pos
    · rw [if_neg h]; exact N_pos

/-- Every payload may be put into an invariant. -/
instance ringRd_payload_storable (g : GSem nD τ sig) (r : ℕ) (d : Bool) :
    BI.Storable (upEmb : UEmb _ 𝕄) ((ringRd (F := F) G).payload g r d) := by
  obtain ⟨g1, s | s⟩ := g
  · show BI.Storable upEmb (if d then barPay g1.1 else iprop(emp))
    unfold barPay
    split <;> infer_instance
  · show BI.Storable upEmb (dmaPay G g1.1 s.val)
    unfold dmaPay sendPay recvPay
    split <;> infer_instance

section Sched

variable (c : Dev nD) (t : Hop)

/-- A send cell is a hop's cell; -/
theorem send_isDma : isDma (sendCell c t) := ⟨rfl, t, .inl rfl⟩
/-- so is a receive cell. -/
theorem recv_isDma : isDma (recvCell c t) := ⟨rfl, t, .inr rfl⟩
/-- No copy's semaphore is the barrier's. -/
theorem dma_ne_bar (s : DmaSem sig) : (SemLoc.dma s : SemLoc sig) ≠ .reg barS := fun h => by cases h

/-- A barrier cell's round has two duties; -/
theorem duties_bar : (ringRd (F := F) G).duties (barCell c) 0 = Finset.univ := by
  dsimp only [ringRd]; rw [if_pos rfl, if_pos ⟨rfl, rfl⟩]
/-- a send cell's has one; -/
theorem duties_send : (ringRd (F := F) G).duties (sendCell c t) 0 = {true} := by
  dsimp only [ringRd]; rw [if_pos rfl, if_neg (fun h => dma_ne_bar _ h.2), if_pos (send_isDma c t)]
/-- a receive cell's has one; -/
theorem duties_recv : (ringRd (F := F) G).duties (recvCell c t) 0 = {true} := by
  dsimp only [ringRd]; rw [if_pos rfl, if_neg (fun h => dma_ne_bar _ h.2), if_pos (recv_isDma c t)]
/-- and no cell has a second round. -/
theorem duties_later (g : GSem nD τ sig) : ∀ r, 1 ≤ r → (ringRd (F := F) G).duties g r = ∅ :=
  fun r hr => by dsimp only [ringRd]; rw [if_neg (by omega)]

/-- A barrier duty adds one unit; -/
theorem amount_bar (d : Bool) : (ringRd (F := F) G).amount (barCell c) 0 d = 1 := by dsimp only [ringRd]; exact if_pos rfl
/-- a send duty one transfer; -/
theorem amount_send (d : Bool) : (ringRd (F := F) G).amount (sendCell c t) 0 d = N := by dsimp only [ringRd]; exact if_neg (dma_ne_bar _)
/-- and a receive duty one transfer. -/
theorem amount_recv (d : Bool) : (ringRd (F := F) G).amount (recvCell c t) 0 d = N := by dsimp only [ringRd]; exact if_neg (dma_ne_bar _)

/-- A barrier cell waits for two units; -/
theorem expect_bar : (ringRd (F := F) G).expect (barCell c) 0 = 2 := by
  unfold Schedule.expect Schedule.amountOf; rw [duties_bar, Finset.sum_congr rfl fun d _ => amount_bar G c d]; decide
/-- a send cell for one transfer; -/
theorem expect_send : (ringRd (F := F) G).expect (sendCell c t) 0 = N := by
  unfold Schedule.expect Schedule.amountOf; rw [duties_send, Finset.sum_singleton, amount_send]
/-- and a receive cell for one transfer. -/
theorem expect_recv : (ringRd (F := F) G).expect (recvCell c t) 0 = N := by
  unfold Schedule.expect Schedule.amountOf; rw [duties_recv, Finset.sum_singleton, amount_recv]

/-- A barrier cell's first duty, the right neighbour's, pays the neighbour's slots, and its second nothing; -/
theorem payload_bar (d : Bool) : (ringRd (F := F) G).payload (barCell c) 0 d = if d then barPay c else iprop(emp) := rfl
/-- a send duty pays back the half share lent to the copy; -/
theorem payload_send (d : Bool) : (ringRd (F := F) G).payload (sendCell c t) 0 d = sendPay G c t.val := by
  show dmaPay G c (sendS t).val = _
  have ht : t.val < 31 := t.isLt
  unfold dmaPay; rw [sendS_val, if_pos (by omega), Nat.add_sub_cancel_left]
/-- and a receive duty pays the slot with its contents. -/
theorem payload_recv (d : Bool) : (ringRd (F := F) G).payload (recvCell c t) 0 d = recvPay G c t.val := by
  show dmaPay G c (recvS t).val = _
  unfold dmaPay; rw [recvS_val, if_neg (by omega), Nat.add_sub_cancel_left]

/-- A conjunction over the two truth values, written out. -/
theorem bigSep_bool (Φ : Bool → sProp 𝕄) : bigSep Finset.univ Φ = iprop(Φ true ∗ Φ false) := by
  rw [show (Finset.univ : Finset Bool) = {true, false} from rfl, bigSep_insert (by decide), bigSep_singleton]; rfl

/-- All a barrier cell pays out in its round; -/
theorem rest_bar : bigSep ((ringRd (F := F) G).duties (barCell c) 0 \ ∅) (fun d => (ringRd (F := F) G).payload (barCell c) 0 d)
    = iprop(barPay c ∗ emp) := by
  rw [Finset.sdiff_empty, duties_bar, bigSep_bool, payload_bar, payload_bar]; rfl
/-- all a send cell pays out; -/
theorem rest_send : bigSep ((ringRd (F := F) G).duties (sendCell c t) 0 \ ∅) (fun d => (ringRd (F := F) G).payload (sendCell c t) 0 d)
    = sendPay G c t.val := by
  rw [Finset.sdiff_empty, duties_send, bigSep_singleton, payload_send]
/-- and all a receive cell pays out. -/
theorem rest_recv : bigSep ((ringRd (F := F) G).duties (recvCell c t) 0 \ ∅) (fun d => (ringRd (F := F) G).payload (recvCell c t) 0 d)
    = recvPay G c t.val := by
  rw [Finset.sdiff_empty, duties_recv, bigSep_singleton, payload_recv]

end Sched

/-! ## What each device owes; levels -/

/-- The receive credits device `c` still owes its right neighbour before hop `k`. -/
def owedFrom (c : Dev nD) (k : ℕ) : CellTallies nD τ sig Unit :=
  ∑ t ∈ Finset.univ.filter (fun t : Hop => k ≤ t.val), tallyAt (recvCell (nxt c) t) () N

/-- At launch: all receive credits, and a barrier unit to each neighbour. -/
def O₀ (c : Dev nD) : CellTallies nD τ sig Unit :=
  (owedFrom c 0 + tallyAt (barCell (nxt c)) () 1) + tallyAt (barCell (prv c)) () 1

/-- The hops from `t` on are `t` and the hops after it; -/
theorem filter_step (t : Hop) : Finset.univ.filter (fun u : Hop => t.val ≤ u.val)
    = insert t (Finset.univ.filter fun u : Hop => t.val + 1 ≤ u.val) := by
  ext u
  simp only [Finset.mem_filter, Finset.mem_univ, true_and, Finset.mem_insert, Fin.ext_iff]
  omega
/-- `t` is not after itself; -/
theorem filter_notMem (t : Hop) : t ∉ Finset.univ.filter fun u : Hop => t.val + 1 ≤ u.val := by
  simp only [Finset.mem_filter, Finset.mem_univ, true_and]; omega
/-- and no hop is past the last. -/
theorem filter_end : Finset.univ.filter (fun u : Hop => 31 ≤ u.val) = ∅ := by
  rw [Finset.filter_eq_empty_iff]; intro u _ h; exact absurd (show u.val < 31 from u.isLt) (Nat.not_lt.mpr h)

/-- Before hop `t` a device owes what it owes after it, and that hop's transfer. -/
theorem owedFrom_step (c : Dev nD) (t : Hop) : owedFrom c t.val = owedFrom c (t.val + 1) + tallyAt (recvCell (nxt c) t) () N := by
  unfold owedFrom; rw [filter_step, Finset.sum_insert (filter_notMem t), add_comm]
/-- After the last hop a device owes nothing. -/
theorem owedFrom_end (c : Dev nD) : owedFrom c 31 = 0 := by unfold owedFrom; rw [filter_end, Finset.sum_empty]

/-- The credit labels of a cell: one on a core's cells. -/
def L (g : GSem nD τ sig) : Finset Unit := if g.1.2 = .tc then {()} else ∅
/-- Barrier cells at 1, the receive cell of hop `t` at `2 + t`, the rest at 0. -/
def lv (g : GSem nD τ sig) (_ : Unit) : ℕ := match g.2 with
  | .reg _ => 1
  | .dma s => if 36 ≤ s.val then s.val - 34 else 0

/-- Cells of no TensorCore have no label; -/
theorem L_of_ne (g : GSem nD τ sig) (h : g.1.2 ≠ .tc) : L g = ∅ := if_neg h
/-- and those of one have one. -/
theorem L_tc (c : Dev nD) (sm : SemLoc sig) : L ((c : Thread nD τ), sm) = {()} := if_pos rfl
/-- A barrier cell's level; -/
theorem lv_bar (c : Dev nD) (u : Unit) : lv (barCell c) u = 1 := rfl
/-- a send cell's; -/
theorem lv_send (c : Dev nD) (t : Hop) (u : Unit) : lv (sendCell c t) u = 0 := by
  show (if 36 ≤ (sendS t).val then (sendS t).val - 34 else 0) = 0; rw [sendS_val]; have : t.val < 31 := t.isLt; rw [if_neg (by omega)]
/-- and a receive cell's. -/
theorem lv_recv (c : Dev nD) (t : Hop) (u : Unit) : lv (recvCell c t) u = 2 + t.val := by
  show (if 36 ≤ (recvS t).val then (recvS t).val - 34 else 0) = _; rw [recvS_val, if_pos (by omega)]; omega

/-- A tally at one cell is positive only there. -/
theorem pos_tallyAt {g g' : GSem nD τ sig} {u : Unit} {n : ℕ} (h : 0 < (tallyAt g () n : CellTallies nD τ sig Unit) g' u) : g' = g := by
  rw [tallyAt_apply] at h
  by_cases hg : g' = g ∧ u = ()
  · exact hg.1
  · rw [if_neg hg] at h; exact absurd h (Nat.lt_irrefl 0)

/-- What is owed to one cell, as a sum over the hops to come. -/
theorem owedFrom_apply (c : Dev nD) (k : ℕ) (g : GSem nD τ sig) (u : Unit) :
    owedFrom c k g u = ∑ t ∈ Finset.univ.filter (fun t : Hop => k ≤ t.val), (tallyAt (recvCell (nxt c) t) () N : CellTallies nD τ sig Unit) g u := by
  unfold owedFrom; rw [Finset.sum_apply, Finsupp.finset_sum_apply]

/-- Before hop `k` only receive cells of hops from `k` on are owed anything. -/
theorem pos_owedFrom {c : Dev nD} {k : ℕ} {g : GSem nD τ sig} {u : Unit} (h : 0 < owedFrom c k g u) :
    ∃ t : Hop, k ≤ t.val ∧ g = recvCell (nxt c) t := by
  rw [owedFrom_apply] at h
  obtain ⟨t, ht, hp⟩ := (Finset.sum_pos_iff).mp h
  exact ⟨t, (Finset.mem_filter.mp ht).2, pos_tallyAt hp⟩

/-- At launch only the right neighbour's receive cells and the two neighbours' barrier cells are owed anything. -/
theorem pos_O₀ {c : Dev nD} {g : GSem nD τ sig} {u : Unit} (h : 0 < O₀ c g u) :
    (∃ t : Hop, g = recvCell (nxt c) t) ∨ g = barCell (nxt c) ∨ g = barCell (prv c) := by
  unfold O₀ at h
  rw [Pi.add_apply, Finsupp.add_apply, Pi.add_apply, Finsupp.add_apply] at h
  rcases Nat.add_pos_iff_pos_or_pos.mp h with h | h
  · rcases Nat.add_pos_iff_pos_or_pos.mp h with h | h
    · obtain ⟨t, -, ht⟩ := pos_owedFrom h; exact .inl ⟨t, ht⟩
    · exact .inr (.inl (pos_tallyAt h))
  · exact .inr (.inr (pos_tallyAt h))

/-- A wait at level `n` while only receive credits of hops from `k` on are owed, `n < 2 + k`. -/
theorem mayWait_from (c : Dev nD) (sm : SemLoc sig) (k n : ℕ) (hn : lv ((c : Thread nD τ), sm) () ≤ n) (hk : n < 2 + k) :
    (levAts L lv : sProp 𝕄) ⊢ MayWait (c : Thread nD τ) sm () (owedFrom c k) :=
  MayOwe.of_cut (L := L) (lev := lv) n (fun p hp => by rw [Finset.mem_singleton.mp hp, L_tc]; exact Finset.mem_singleton_self _)
    (fun g u hg => by obtain ⟨t, -, rfl⟩ := pos_owedFrom hg; rw [L_tc]; exact Finset.mem_singleton_self _)
    (fun p hp => by rw [Finset.mem_singleton.mp hp]; exact hn)
    (fun g u hg => by obtain ⟨t, ht, rfl⟩ := pos_owedFrom hg; rw [lv_recv]; omega)

/-! ## The landed contents -/

/-- What a slot's view reads, written back through it over anything: the slot is as it was read. -/
theorem landed_congr (c : Dev nD) (t : Hop) (fd fs : CommC (F := F)) :
    ∀ i ∈ slotSet (slotAt c t.val), (hopV c t).view.write (Elt F) fd ((hopV c t).view.read (Elt F) fs) Finset.univ i = fs i := by
  intro i hi
  rw [View.write_read_eq_piecewise, Finset.piecewise_eq_of_mem]
  show i ∈ (hopV c t).view.set
  rwa [hopV_set]

/-- A hop's number is below thirty-one. -/
theorem trips_lt (t : Hop) : t.val < 31 := t.isLt

end Cert.KernelIdeal.Own

end
-- ==== Proof.KernelIdeal.Hop.lean ====
module

public import proofs.«01_k».proof.Proof.KernelIdeal.Proto

@[expose] public section

noncomputable section

namespace Cert.KernelIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

/-- No loop of the program needs a variant. -/
abbrev 𝒱₀ : Variants := Variants.none

/-- A whole buffer of device `c` at contents `f`. -/
abbrev pts (c : Dev nD) (b : Ref sig .tc) (f : b.ty.Contents (Elt F)) : sProp 𝕄 := ((Memref.whole b).view.loc (c : Thread nD τ)) ↦{fullShare} f

/-! ## One hop's resources -/

/-- The invariants hop `t` of device `c` opens: its own send and receive cells and its right neighbour's receive cell. -/
def hopInvs (G : CommC (F := F)) (κ : GSem nD τ sig → ℕ) (c : Dev nD) (t : Hop) : sProp 𝕄 :=
  iprop(cellInv ER (ringRd G) (κ (sendCell c t)) (sendCell c t) ∗ cellInv ER (ringRd G) (κ (recvCell c t)) (recvCell c t)
    ∗ cellInv ER (ringRd G) (κ (recvCell (nxt c) t)) (recvCell (nxt c) t)
    ∗ reached ER (sendCell c t) 0 ∗ reached ER (recvCell (nxt c) t) 0)

/-- A hop's invariants may be kept and copied. -/
instance (G : CommC (F := F)) (κ : GSem nD τ sig → ℕ) (c : Dev nD) (t : Hop) : BI.Persistent (hopInvs G κ c t) := by
  unfold hopInvs; infer_instance

/-- What hop `t` of device `c` starts from: its positions and duty tokens, its arrival's credit and the neighbour's slot. -/
def todo (G : CommC (F := F)) (κ : GSem nD τ sig → ℕ) (c : Dev nD) (t : Hop) : sProp 𝕄 :=
  iprop(hopInvs G κ c t ∗ atPos ER (sendCell c t) 0 ∅ 0 ∗ atPos ER (recvCell c t) 0 ∅ 0
    ∗ dutyTok ER (sendCell c t) 0 true ∗ dutyTok ER (recvCell (nxt c) t) 0 true
    ∗ cred (tallyAt (recvCell c t) () N) ∗ ∃ f, slotPts (nxt c) (slotAt c t.val) fullShare f)

/-- What it leaves: both counters back at zero and the slot it passed on. -/
def hopDone (G : CommC (F := F)) (c : Dev nD) (t : Hop) : sProp 𝕄 :=
  iprop(semVal (sendCell c t) 0 ∗ semVal (recvCell c t) 0 ∗ slotPts c (slotAt c t.val) fullShare G)

/-- A cell whose one round is over gives its counter back at zero. -/
theorem hop_close (G : CommC (F := F)) (κ : ℕ) (g : GSem nD τ sig) :
    iprop(cellInv ER (ringRd G) κ g ∗ atPos ER g (0 + 1) ∅ 0) ⊢ (|={Set.univ}=> semVal g 0 : sProp 𝕄) :=
  Rounds.cell_close ER (ringRd G) (Set.mem_univ κ) id (duties_later G g)

/-- A slot owned whole is the slot owned by halves. -/
theorem slot_halves (c : Dev nD) (s : Fin 32) (G : CommC (F := F)) :
    (slotPts c s fullShare G : sProp 𝕄) ⊣⊢ iprop(slotPts c s fullShare.left G ∗ slotPts c s fullShare.right G) :=
  pointsTo_share (PosShare.mem_left_op_right fullShare)

/-- The half share lent to a copy is what the send cell pays back. -/
theorem send_pay (G : CommC (F := F)) (c : Dev nD) (t : Hop) :
    ((hopV c t).view.loc (c : Thread nD τ) ↦[(hopV c t).view.set]{fullShare.left} (G : Buf (Elt F) ((hopV c t).view.loc (c : Thread nD τ))) : sProp 𝕄)
      = (ringRd G).payload (sendCell c t) 0 true := by
  rw [payload_send, hopV_set]; rfl

/-- The neighbour's slot with the sent contents written into it is what the neighbour's receive cell pays out. -/
theorem recv_pay (G : CommC (F := F)) (c : Dev nD) (t : Hop) (fd : CommC (F := F)) :
    ((hopV c t).view.loc (nxt c : Thread nD τ) ↦[(hopV c t).view.set]{fullShare}
        ((hopV c t).view.write (Elt F) fd ((hopV c t).view.read (Elt F) G) Finset.univ : Buf (Elt F) ((hopV c t).view.loc (nxt c : Thread nD τ))) : sProp 𝕄)
      = (ringRd G).payload (recvCell (nxt c) t) 0 true := by
  rw [payload_recv, hopV_set]
  unfold recvPay slotPts
  rw [slotAt_nxt c t.val t.isLt]
  exact pointsTo_congr (landed_congr c t fd G)

set_option maxHeartbeats 400000 in
/-- Hop `t`'s transfer: the half share of the slot and the neighbour's slot go out, its departure's credit comes back. -/
theorem hop_send (G : CommC (F := F)) (κ : GSem nD τ sig → ℕ) (c : Dev nD) (t : Hop) (W : Waits sig Unit) (fn : CommC (F := F)) {d : Dev nD} (hd : d = nxt c)
    {h₁ h₂ : (hopV c t).view.WordExact} {h₀ h₃} {α : Type} {k : PUnit → Prog (TpuEff nD τ sig (Elt F) Λ₀ .tc) α} (Kt : α → sProp 𝕄) :
    iprop(hopInvs G κ c t ∗ slotPts c (slotAt c t.val) fullShare.left G ∗ slotPts (nxt c) (slotAt c t.val) fullShare fn
        ∗ owes (c : Thread nD τ) (owedFrom c t.val) W ∗ dutyTok ER (sendCell c t) 0 true ∗ dutyTok ER (recvCell (nxt c) t) 0 true
        ∗ ((cred (tallyAt (sendCell c t) () N) ∗ owes (c : Thread nD τ) (owedFrom c (t.val + 1)) W) -∗ wp frame (wpE (defs₀ (F := F)) 𝒱₀ c none) Set.univ (k ⟨⟩) Kt))
      ⊢ wp frame (wpE (defs₀ (F := F)) 𝒱₀ c none) Set.univ
        (Prog.lift (.enqueueDma (hopV c t) (.remote (Dev.tc d : Thread nD τ) (hopV c t) (.dma (sendS t)) h₀) (.dma (recvS t)) h₁ h₂ h₃) >>= k) Kt := by
  subst hd
  unfold hopInvs
  iintro ⟨⟨#HIs, #HIr, #HIn, #Hrs, #Hrn⟩, HSl, HsN, HO, HtS, HtN, Hk⟩
  ihave HSl' := (Entails.of_eq (show (slotPts c (slotAt c t.val) fullShare.left G : sProp 𝕄) = ((hopV c t).view.loc (c : Thread nD τ) ↦[(hopV c t).view.set]{fullShare.left} (G : Buf (Elt F) ((hopV c t).view.loc (c : Thread nD τ)))) by rw [hopV_set]; rfl)) $$ HSl
  ihave HsN' := (Entails.of_eq (show (slotPts (nxt c) (slotAt c t.val) fullShare fn : sProp 𝕄) = ((hopV c t).view.loc (nxt c : Thread nD τ) ↦[(hopV c t).view.set]{fullShare} (fn : Buf (Elt F) ((hopV c t).view.loc (nxt c : Thread nD τ)))) by rw [hopV_set]; rfl)) $$ HsN
  iapply (Rounds.wp_send_pointsTo 𝒱₀ ER (ringRd G) (c : Thread nD τ) none (c' := (nxt c : Thread nD τ)) (src := hopV c t) (dst := hopV c t)
      (sS := .dma (sendS t)) (sem := .dma (recvS t)) (q := fullShare.left) (fs := G) (κ₁ := κ (sendCell c t)) (κ₂ := κ (recvCell (nxt c) t))
      (r₁ := 0) (r₂ := 0) (d₁ := true) (d₂ := true) (fd := fn)
      (by rw [duties_send]; exact Finset.mem_singleton_self _) (by rw [duties_recv]; exact Finset.mem_singleton_self _)
      () () N (hop_credit c t) (amount_send G c t true) (amount_recv G (nxt c) t true) (owedFrom c (t.val + 1)) (owedFrom_step c t) (W := W)
      (Entails.of_eq (send_pay G c t)) (Entails.of_eq (recv_pay G c t fn))) $$ [HSl' HsN' HO HtS HtN]
  · isplitr; · iexact HIs
    isplitr; · iexact HIn
    isplitl [HSl']; · iexact HSl'
    isplitl [HsN']; · iexact HsN'
    isplitl [HO]; · iexact HO
    isplitl [HtS]; · iexact HtS
    isplitr; · iexact Hrs
    isplitl [HtN]; · iexact HtN
    iexact Hrn
  iexact Hk

set_option maxHeartbeats 400000 in
/-- The wait for hop `t`'s departure: the half share of the slot comes back. -/
theorem hop_waitSend (G : CommC (F := F)) (κ : GSem nD τ sig → ℕ) (c : Dev nD) (t : Hop) (W : Waits sig Unit)
    {h₁ h₂} {α : Type} {k : PUnit → Prog (TpuEff nD τ sig (Elt F) Λ₀ .tc) α} (Kt : α → sProp 𝕄) :
    iprop(hopInvs G κ c t ∗ levAts L lv ∗ cred (tallyAt (sendCell c t) () N) ∗ owes (c : Thread nD τ) (owedFrom c (t.val + 1)) W ∗ atPos ER (sendCell c t) 0 ∅ 0
        ∗ ((owes (c : Thread nD τ) (owedFrom c (t.val + 1)) (insert (SemLoc.dma (sendS t), ()) W) ∗ atPos ER (sendCell c t) (0 + 1) ∅ 0 ∗ slotPts c (slotAt c t.val) fullShare.left G)
            -∗ wp frame (wpE (defs₀ (F := F)) 𝒱₀ c none) Set.univ (k ⟨⟩) Kt))
      ⊢ wp frame (wpE (defs₀ (F := F)) 𝒱₀ c none) Set.univ (Prog.op (.waitDma2 (sendS t) (hopV c t) (hopV c t) h₁ h₂) k) Kt := by
  unfold hopInvs
  iintro ⟨⟨#HIs, #HIr, #HIn, #Hrs, #Hrn⟩, #Hlev, Hc, HO, Hat, Hk⟩
  iapply (Rounds.wp_wait_rest_token 𝒱₀ ER (ringRd G) (c : Thread nD τ) none (κ := κ (sendCell c t))
      (wpE_waitDma2_eq 𝒱₀ (c : Thread nD τ) none Set.univ) (Set.mem_univ _) () (O := owedFrom c (t.val + 1)) (W := W) (R := 0) (m := 0) (T := ∅)
      ((Nat.zero_add _).trans ((hop_credit c t).trans (expect_send G c t).symm))) $$ [Hc HO Hat]
  · isplitr; · iexact HIs
    isplitl [Hc]; · rw [hop_credit]; iexact Hc
    isplitl [HO]; · iexact HO
    isplitr; · iapply (mayWait_from c (.dma (sendS t)) (t.val + 1) 0 (le_of_eq (lv_send c t ())) (by omega)); iexact Hlev
    iexact Hat
  iintro ⟨HO, Hat, -, Hpay⟩
  iapply Hk
  isplitl [HO]; · iexact HO
  isplitl [Hat]; · iexact Hat
  iapply (Entails.of_eq ((rest_send G c t).trans (by unfold sendPay; rfl))) $$ Hpay

set_option maxHeartbeats 400000 in
/-- The wait for hop `t`'s arrival: the next slot comes, holding its owner's weights. -/
theorem hop_waitRecv (G : CommC (F := F)) (κ : GSem nD τ sig → ℕ) (c : Dev nD) (t : Hop) (W : Waits sig Unit)
    {h₁ h₂} {α : Type} {k : PUnit → Prog (TpuEff nD τ sig (Elt F) Λ₀ .tc) α} (Kt : α → sProp 𝕄) :
    iprop(hopInvs G κ c t ∗ levAts L lv ∗ cred (tallyAt (recvCell c t) () N) ∗ owes (c : Thread nD τ) (owedFrom c (t.val + 1)) W ∗ atPos ER (recvCell c t) 0 ∅ 0
        ∗ ((owes (c : Thread nD τ) (owedFrom c (t.val + 1)) (insert (SemLoc.dma (recvS t), ()) W) ∗ atPos ER (recvCell c t) (0 + 1) ∅ 0 ∗ slotPts c (slotAt c (t.val + 1)) fullShare G)
            -∗ wp frame (wpE (defs₀ (F := F)) 𝒱₀ c none) Set.univ (k ⟨⟩) Kt))
      ⊢ wp frame (wpE (defs₀ (F := F)) 𝒱₀ c none) Set.univ (Prog.op (.waitDma2 (recvS t) (hopV c t) (hopV c t) h₁ h₂) k) Kt := by
  unfold hopInvs
  iintro ⟨⟨#HIs, #HIr, #HIn, #Hrs, #Hrn⟩, #Hlev, Hc, HO, Hat, Hk⟩
  iapply (Rounds.wp_wait_rest_token 𝒱₀ ER (ringRd G) (c : Thread nD τ) none (κ := κ (recvCell c t))
      (wpE_waitDma2_eq 𝒱₀ (c : Thread nD τ) none Set.univ) (Set.mem_univ _) () (O := owedFrom c (t.val + 1)) (W := W) (R := 0) (m := 0) (T := ∅)
      ((Nat.zero_add _).trans ((hop_credit c t).trans (expect_recv G c t).symm))) $$ [Hc HO Hat]
  · isplitr; · iexact HIr
    isplitl [Hc]; · rw [hop_credit]; iexact Hc
    isplitl [HO]; · iexact HO
    isplitr; · iapply (mayWait_from c (.dma (recvS t)) (t.val + 1) (2 + t.val) (le_of_eq (lv_recv c t ())) (by omega)); iexact Hlev
    iexact Hat
  iintro ⟨HO, Hat, -, Hpay⟩
  iapply Hk
  isplitl [HO]; · iexact HO
  isplitl [Hat]; · iexact Hat
  iapply (Entails.of_eq ((rest_recv G c t).trans (by unfold recvPay; rfl))) $$ Hpay

end Cert.KernelIdeal.Own

end
-- ==== Proof.KernelIdeal.Chunk.lean ====
module

public import proofs.«01_k».proof.Proof.KernelIdeal.Proto
public import Idealize.ShloMosaic.Lib.Pipeline.Value
public import Idealize.ShloMosaic.Lib.VecWindow

@[expose] public section

noncomputable section

namespace Cert.KernelIdeal.Own

open Idealize.ShloMosaic Idealize.ShloMosaic.TcCoe Idealize.ShloMosaic.Tactic
open Cert.KernelIdeal Cert.KernelIdeal.Gen

variable {F : FTy → Type} [FloatOps F]

/-! ## One attention head's block, and the context of one chunk of heads -/

/-- Attention of one head on one batch: scores, scale, mask, softmax along the keys, weighted sum of the values. -/
def headBlk (m : IVec S128x128 1) (q k v : FVec F S128x64 .f32) : FVec F S128x64 .f32 :=
  have z : FVec F S128x128 .f32 := constant S128x128 .f32 0x00000000#32
  have a : FVec F S128x128 .f32 := matmul dot_S128x64_S128x64_S128x128_1_1_0_0_n_n none q k z
  have b : FVec F S128x128 .f32 := broadcast S128x128 (Scalar.ofBits .f32 0x3E000000#32)
  have n : FVec F S128x128 .f32 := broadcast S128x128 (Scalar.ofBits .f32 0xCE6E6B28#32)
  have s : FVec F S128x128 .f32 := select m (mulf a b) n
  have mx : FVec F S128 .f32 := multiReduction .maximumf [1] S128 s 0xFF800000#32 reduces_S128x128_S128 (.inl rfl) rfl
  have e : FVec F S128x128 .f32 := exp (subf s (broadcastTo S128x128 (shapeCast S128x1 mx shapeCasts_S128_S128x1) broadcasts_S128x1_S128x128))
  have sm : FVec F S128 .f32 := multiReduction .add [1] S128 e 0x00000000#32 reduces_S128x128_S128 (.inl rfl) rfl
  have p : FVec F S128x128 .f32 := divf e (broadcastTo S128x128 (shapeCast S128x1 sm shapeCasts_S128_S128x1) broadcasts_S128x1_S128x128)
  have z' : FVec F S128x64 .f32 := constant S128x64 .f32 0x00000000#32
  shapeCast S128x64 (matmul dot_S128x128_S128x64_S128x64_1_0_0_1_n_n none p v z') shapeCasts_S128x64_S128x64

/-- Rows of batch `b` and columns of head `h`. -/
def tile (q : FVec F S256x256 .f32) (b : Fin 2) (h : Fin 4) : FVec F S128x64 .f32 :=
  fun j => q fun a => match a with
    | 0 => ⟨128 * b.val + (j 0).val, by have := b.isLt; have := (j 0).isLt; simp [S128x64, S256x256] at *; omega⟩
    | 1 => ⟨64 * h.val + (j 1).val, by have := h.isLt; have := (j 1).isLt; simp [S128x64, S256x256] at *; omega⟩
/-- Columns of head `h`. -/
def cols (k : FVec F S128x256 .f32) (h : Fin 4) : FVec F S128x64 .f32 :=
  fun j => k fun a => match a with
    | 0 => ⟨(j 0).val, by have := (j 0).isLt; simp [S128x64, S128x256] at *; omega⟩
    | 1 => ⟨64 * h.val + (j 1).val, by have := h.isLt; have := (j 1).isLt; simp [S128x64, S128x256] at *; omega⟩

/-- The context of one chunk: four heads side by side, two batches one above the other. -/
def ctxOf (m : IVec S128x128 1) (q : FVec F S256x256 .f32) (k v : Fin 2 → FVec F S128x256 .f32) : Vec F S256x256 .f32 :=
  fun i =>
    let b : Fin 2 := ⟨(i 0).val / 128, by have := (i 0).isLt; simp [S256x256] at *; omega⟩
    let h : Fin 4 := ⟨(i 1).val / 64, by have := (i 1).isLt; simp [S256x256] at *; omega⟩
    headBlk m (tile q b h) (cols (k b) h) (cols (v b) h) fun a => match a with
      | 0 => ⟨(i 0).val % 128, by simp [S128x64]; omega⟩
      | 1 => ⟨(i 1).val % 64, by simp [S128x64]; omega⟩

/-- An entry of a chunk's context is the entry of the block of its batch and head. -/
theorem ctxOf_apply (m : IVec S128x128 1) (q : FVec F S256x256 .f32) (k v : Fin 2 → FVec F S128x256 .f32) (b : Fin 2) (h : Fin 4)
    (x : S128x64.Idx) (y : S256x256.Idx) (h0 : (y 0).val = 128 * b.val + (x 0).val) (h1 : (y 1).val = 64 * h.val + (x 1).val) :
    ctxOf m q k v y = headBlk m (tile q b h) (cols (k b) h) (cols (v b) h) x := by
  have hx0 : (x 0).val < 128 := (x 0).isLt
  have hx1 : (x 1).val < 64 := (x 1).isLt
  have eb : (⟨(y 0).val / 128, by have := (y 0).isLt; simp [S256x256] at *; omega⟩ : Fin 2) = b := Fin.ext (by simp only; omega)
  have eh : (⟨(y 1).val / 64, by have := (y 1).isLt; simp [S256x256] at *; omega⟩ : Fin 4) = h := Fin.ext (by simp only; omega)
  unfold ctxOf
  simp only
  rw [eb, eh]
  congr 1
  funext a
  match a with
  | 0 => exact Fin.ext (by simp only; omega)
  | 1 => exact Fin.ext (by simp only; omega)

/-- The slice of the queries at a batch's rows and a head's columns is that batch's and head's tile. -/
theorem slice_tile (q : FVec F S256x256 .f32) (b : Fin 2) (h : Fin 4) {off : Fin 2 → ℕ} (hs : S256x256.Slices off S128x64)
    (h0 : off 0 = 128 * b.val) (h1 : off 1 = 64 * h.val) : extractStridedSlice S128x64 off q hs = tile q b h := by
  funext j
  exact extractStridedSlice_apply off q hs j _ fun a => match a with
    | 0 => by rw [h0]; rfl
    | 1 => by rw [h1]; rfl
/-- The slice of the keys or values at a head's columns is that head's columns. -/
theorem slice_cols (k : FVec F S128x256 .f32) (h : Fin 4) {off : Fin 2 → ℕ} (hs : S128x256.Slices off S128x64)
    (h0 : off 0 = 0) (h1 : off 1 = 64 * h.val) : extractStridedSlice S128x64 off k hs = cols k h := by
  funext j
  exact extractStridedSlice_apply off k hs j _ fun a => match a with
    | 0 => by rw [h0]; exact (Nat.zero_add _).symm
    | 1 => by rw [h1]; rfl

/-- Reading the whole context buffer after its eight block stores gives the context. -/
theorem readCov_blocks (m : IVec S128x128 1) (q : FVec F S256x256 .f32) (k0 v0 k1 v1 : FVec F S128x256 .f32)
    (p00 p01 p02 p03 p10 p11 p12 p13 : FVec F S128x64 .f32)
    (e00 : p00 = headBlk m (extractStridedSlice S128x64 ![0, 0] q slices_S256x256_o0_0_S128x64) (extractStridedSlice S128x64 ![0, 0] k0 slices_S128x256_o0_0_S128x64) (extractStridedSlice S128x64 ![0, 0] v0 slices_S128x256_o0_0_S128x64))
    (e01 : p01 = headBlk m (extractStridedSlice S128x64 ![0, 64] q slices_S256x256_o0_64_S128x64) (extractStridedSlice S128x64 ![0, 64] k0 slices_S128x256_o0_64_S128x64) (extractStridedSlice S128x64 ![0, 64] v0 slices_S128x256_o0_64_S128x64))
    (e02 : p02 = headBlk m (extractStridedSlice S128x64 ![0, 128] q slices_S256x256_o0_128_S128x64) (extractStridedSlice S128x64 ![0, 128] k0 slices_S128x256_o0_128_S128x64) (extractStridedSlice S128x64 ![0, 128] v0 slices_S128x256_o0_128_S128x64))
    (e03 : p03 = headBlk m (extractStridedSlice S128x64 ![0, 192] q slices_S256x256_o0_192_S128x64) (extractStridedSlice S128x64 ![0, 192] k0 slices_S128x256_o0_192_S128x64) (extractStridedSlice S128x64 ![0, 192] v0 slices_S128x256_o0_192_S128x64))
    (e10 : p10 = headBlk m (extractStridedSlice S128x64 ![128, 0] q slices_S256x256_o128_0_S128x64) (extractStridedSlice S128x64 ![0, 0] k1 slices_S128x256_o0_0_S128x64) (extractStridedSlice S128x64 ![0, 0] v1 slices_S128x256_o0_0_S128x64))
    (e11 : p11 = headBlk m (extractStridedSlice S128x64 ![128, 64] q slices_S256x256_o128_64_S128x64) (extractStridedSlice S128x64 ![0, 64] k1 slices_S128x256_o0_64_S128x64) (extractStridedSlice S128x64 ![0, 64] v1 slices_S128x256_o0_64_S128x64))
    (e12 : p12 = headBlk m (extractStridedSlice S128x64 ![128, 128] q slices_S256x256_o128_128_S128x64) (extractStridedSlice S128x64 ![0, 128] k1 slices_S128x256_o0_128_S128x64) (extractStridedSlice S128x64 ![0, 128] v1 slices_S128x256_o0_128_S128x64))
    (e13 : p13 = headBlk m (extractStridedSlice S128x64 ![128, 192] q slices_S256x256_o128_192_S128x64) (extractStridedSlice S128x64 ![0, 192] k1 slices_S128x256_o0_192_S128x64) (extractStridedSlice S128x64 ![0, 192] v1 slices_S128x256_o0_192_S128x64)) :
    (Memref.whole cc0_scratch1).view.readCov (Val := Elt F)
      [⟨Rect.unit ![128, 192] S128x64.size inb_S256x256_S128x64_128_192, p13⟩, ⟨Rect.unit ![128, 128] S128x64.size inb_S256x256_S128x64_128_128, p12⟩,
        ⟨Rect.unit ![128, 64] S128x64.size inb_S256x256_S128x64_128_64, p11⟩, ⟨Rect.unit ![128, 0] S128x64.size inb_S256x256_S128x64_128_0, p10⟩,
        ⟨Rect.unit ![0, 192] S128x64.size inb_S256x256_S128x64_0_192, p03⟩, ⟨Rect.unit ![0, 128] S128x64.size inb_S256x256_S128x64_0_128, p02⟩,
        ⟨Rect.unit ![0, 64] S128x64.size inb_S256x256_S128x64_0_64, p01⟩, ⟨Rect.unit ![0, 0] S128x64.size inb_S256x256_S128x64_0_0, p00⟩]
      (Rect.unit (s := S256x256) ![0, 0] S256x256.size inb_S256x256_S256x256_0_0).toLoadRect
    = ctxOf m q (fun b => if b = 0 then k0 else k1) (fun b => if b = 0 then v0 else v1) := by
  subst e00 e01 e02 e03 e10 e11 e12 e13
  rw [slice_tile q 0 0 slices_S256x256_o0_0_S128x64 rfl rfl, slice_tile q 0 1 slices_S256x256_o0_64_S128x64 rfl rfl, slice_tile q 0 2 slices_S256x256_o0_128_S128x64 rfl rfl, slice_tile q 0 3 slices_S256x256_o0_192_S128x64 rfl rfl,
    slice_tile q 1 0 slices_S256x256_o128_0_S128x64 rfl rfl, slice_tile q 1 1 slices_S256x256_o128_64_S128x64 rfl rfl, slice_tile q 1 2 slices_S256x256_o128_128_S128x64 rfl rfl, slice_tile q 1 3 slices_S256x256_o128_192_S128x64 rfl rfl,
    slice_cols k0 0 slices_S128x256_o0_0_S128x64 rfl rfl, slice_cols k0 1 slices_S128x256_o0_64_S128x64 rfl rfl, slice_cols k0 2 slices_S128x256_o0_128_S128x64 rfl rfl, slice_cols k0 3 slices_S128x256_o0_192_S128x64 rfl rfl,
    slice_cols v0 0 slices_S128x256_o0_0_S128x64 rfl rfl, slice_cols v0 1 slices_S128x256_o0_64_S128x64 rfl rfl, slice_cols v0 2 slices_S128x256_o0_128_S128x64 rfl rfl, slice_cols v0 3 slices_S128x256_o0_192_S128x64 rfl rfl,
    slice_cols k1 0 slices_S128x256_o0_0_S128x64 rfl rfl, slice_cols k1 1 slices_S128x256_o0_64_S128x64 rfl rfl, slice_cols k1 2 slices_S128x256_o0_128_S128x64 rfl rfl, slice_cols k1 3 slices_S128x256_o0_192_S128x64 rfl rfl,
    slice_cols v1 0 slices_S128x256_o0_0_S128x64 rfl rfl, slice_cols v1 1 slices_S128x256_o0_64_S128x64 rfl rfl, slice_cols v1 2 slices_S128x256_o0_128_S128x64 rfl rfl, slice_cols v1 3 slices_S128x256_o0_192_S128x64 rfl rfl]
  rw [View.readCov_eq_canon']
  funext j
  have hj : (Rect.unit (s := S256x256) ![0, 0] S256x256.size inb_S256x256_S256x256_0_0).toLoadRect.idx j = j := by
    funext a
    refine Fin.ext ?_
    match a with
    | 0 => exact (Nat.zero_add _).trans (Nat.one_mul _)
    | 1 => exact (Nat.zero_add _).trans (Nat.one_mul _)
  rw [hj]
  generalize (show S256x256.Idx from j) = y
  refine View.canon_apply_of_pieces _ _ ?_ y ?_
  · intro p hp
    have key : ∀ (b : Fin 2) (h : Fin 4) (k v : FVec F S128x256 .f32) (off : Fin 2 → ℕ) (inb : ∀ a, off a + S128x64.size a ≤ S256x256.size a)
        (_ : off 0 = 128 * b.val) (_ : off 1 = 64 * h.val) (_ : k = if b = 0 then k0 else k1) (_ : v = if b = 0 then v0 else v1)
        (x : (Rect.unit (s := S256x256) off S128x64.size inb).shape.Idx),
        headBlk m (tile q b h) (cols k h) (cols v h) x
          = ctxOf m q (fun b => if b = 0 then k0 else k1) (fun b => if b = 0 then v0 else v1) ((Rect.unit (s := S256x256) off S128x64.size inb).emb x) := by
      intro b h k v off inb h0 h1 hk hv x
      subst hk hv
      refine (ctxOf_apply m q (fun b => if b = 0 then k0 else k1) (fun b => if b = 0 then v0 else v1) b h x ((Rect.unit (s := S256x256) off S128x64.size inb).emb x) ?_ ?_).symm
      · show off 0 + 1 * (x 0).val = _; rw [h0, Nat.one_mul]
      · show off 1 + 1 * (x 1).val = _; rw [h1, Nat.one_mul]
    simp only [List.mem_cons, List.not_mem_nil, or_false] at hp
    rcases hp with rfl | rfl | rfl | rfl | rfl | rfl | rfl | rfl
    · exact key 1 3 k1 v1 _ inb_S256x256_S128x64_128_192 rfl rfl rfl rfl
    · exact key 1 2 k1 v1 _ inb_S256x256_S128x64_128_128 rfl rfl rfl rfl
    · exact key 1 1 k1 v1 _ inb_S256x256_S128x64_128_64 rfl rfl rfl rfl
    · exact key 1 0 k1 v1 _ inb_S256x256_S128x64_128_0 rfl rfl rfl rfl
    · exact key 0 3 k0 v0 _ inb_S256x256_S128x64_0_192 rfl rfl rfl rfl
    · exact key 0 2 k0 v0 _ inb_S256x256_S128x64_0_128 rfl rfl rfl rfl
    · exact key 0 1 k0 v0 _ inb_S256x256_S128x64_0_64 rfl rfl rfl rfl
    · exact key 0 0 k0 v0 _ inb_S256x256_S128x64_0_0 rfl rfl rfl rfl
  · have hj0 : (y 0).val < 256 := (y 0).isLt
    have hj1 : (y 1).val < 256 := (y 1).isLt
    simp only [List.mem_cons, List.not_mem_nil, or_false, exists_eq_or_imp, exists_eq_left, Rect.mem_set_unit, Fin.forall_fin_two, Matrix.cons_val_zero, Matrix.cons_val_one, S128x64]
    rcases Nat.lt_or_ge (y 0).val 128 with h0 | h0 <;> rcases Nat.lt_or_ge (y 1).val 64 with h1 | h1 <;>
      rcases Nat.lt_or_ge (y 1).val 128 with h2 | h2 <;> rcases Nat.lt_or_ge (y 1).val 192 with h3 | h3 <;> omega

/-! ## The chunk a slot holds -/

/-- The query weights a slot of the communication buffer holds. -/
def wqB (G : CommC (F := F)) (s : Fin 32) : Vec F S1x1x512x256 .f32 := fun i => G fun a => match a with
  | 0 => s | 1 => (0 : Fin 2) | 2 => i 2 | 3 => i 3
/-- The output weights a slot of the communication buffer holds. -/
def woB (G : CommC (F := F)) (s : Fin 32) : Vec F S1x1x512x256 .f32 := fun i => G fun a => match a with
  | 0 => s | 1 => (1 : Fin 2) | 2 => i 2 | 3 => i 3
/-- The keys (or values) of chunk `s` on batch `b`. -/
def kvB (K : Vec F S2x32x128x256 .f32) (b : Fin 2) (s : Fin 32) : Vec F S1x1x128x256 .f32 := fun i => K fun a => match a with
  | 0 => b | 1 => s | 2 => i 2 | 3 => i 3

/-- The context of chunk `s`. -/
def ctxAt (m : IVec S128x128 1) (X : Vec F S256x512 .f32) (K V : Vec F S2x32x128x256 .f32) (G : CommC (F := F)) (s : Fin 32) : Vec F S256x256 .f32 :=
  ctxOf m (k0_pay3 (wqB G s) X) (fun b => k0_pay4 (kvB K b s)) (fun b => k0_pay5 (kvB V b s))

/-- The output accumulator after chunk `s`. -/
def addChunk (m : IVec S128x128 1) (X : Vec F S256x512 .f32) (K V : Vec F S2x32x128x256 .f32) (G : CommC (F := F)) (s : Fin 32) (A : Vec F S256x512 .f32) :
    Vec F S256x512 .f32 := k0_pay32 (k0_pay2 (woB G s)) A (ctxAt m X K V G s)

/-- The output accumulator after `k` chunks, taken in the order the ring brings them. -/
def accAt (m : IVec S128x128 1) (X : Vec F S256x512 .f32) (K V : Vec F S2x32x128x256 .f32) (G : CommC (F := F)) (c : Dev nD) : ℕ → Vec F S256x512 .f32
  | 0 => k0_pay30
  | k + 1 => addChunk m X K V G (slotAt c k) (accAt m X K V G c k)

/-! ## What the loads read -/

/-- A load of one weight block of slot `s` reads the query weights, -/
theorem read_wq (G : CommC (F := F)) (s : Fin 32) {off : Fin 4 → ℕ} (inb : ∀ a, off a + S1x1x512x256.size a ≤ S32x2x512x256.size a)
    (ho : off = ![s.val, 0, 0, 0]) :
    commM.view.readAt (Elt F) (Rect.unit (s := S32x2x512x256) off S1x1x512x256.size inb).toLoadRect G = wqB G s := by
  subst ho
  funext i
  refine congrArg G (funext fun a => Fin.ext ?_)
  have h0 : (i 0).val < 1 := (i 0).isLt
  have h1 : (i 1).val < 1 := (i 1).isLt
  match a with
  | 0 => show s.val + 1 * (i 0).val = s.val; omega
  | 1 => show 0 + 1 * (i 1).val = 0; omega
  | 2 => show 0 + 1 * (i 2).val = (i 2).val; omega
  | 3 => show 0 + 1 * (i 3).val = (i 3).val; omega
/-- of the other block the output weights; -/
theorem read_wo (G : CommC (F := F)) (s : Fin 32) {off : Fin 4 → ℕ} (inb : ∀ a, off a + S1x1x512x256.size a ≤ S32x2x512x256.size a)
    (ho : off = ![s.val, 1, 0, 0]) :
    commM.view.readAt (Elt F) (Rect.unit (s := S32x2x512x256) off S1x1x512x256.size inb).toLoadRect G = woB G s := by
  subst ho
  funext i
  refine congrArg G (funext fun a => Fin.ext ?_)
  have h0 : (i 0).val < 1 := (i 0).isLt
  have h1 : (i 1).val < 1 := (i 1).isLt
  match a with
  | 0 => show s.val + 1 * (i 0).val = s.val; omega
  | 1 => show 1 + 1 * (i 1).val = 1; omega
  | 2 => show 0 + 1 * (i 2).val = (i 2).val; omega
  | 3 => show 0 + 1 * (i 3).val = (i 3).val; omega
/-- and a load of the keys' or values' chunk reads that chunk. -/
theorem read_k (K : Vec F S2x32x128x256 .f32) (b : Fin 2) (s : Fin 32) {off : Fin 4 → ℕ} (inb : ∀ a, off a + S1x1x128x256.size a ≤ S2x32x128x256.size a)
    (ho : off = ![b.val, s.val, 0, 0]) :
    (Memref.whole cc0_stg2_0).view.readAt (Elt F) (Rect.unit (s := S2x32x128x256) off S1x1x128x256.size inb).toLoadRect K = kvB K b s := by
  subst ho
  funext i
  refine congrArg K (funext fun a => Fin.ext ?_)
  have h0 : (i 0).val < 1 := (i 0).isLt
  have h1 : (i 1).val < 1 := (i 1).isLt
  match a with
  | 0 => show b.val + 1 * (i 0).val = b.val; omega
  | 1 => show s.val + 1 * (i 1).val = s.val; omega
  | 2 => show 0 + 1 * (i 2).val = (i 2).val; omega
  | 3 => show 0 + 1 * (i 3).val = (i 3).val; omega
/-- What is read of the values is one batch's block of one chunk. -/
theorem read_v (K : Vec F S2x32x128x256 .f32) (b : Fin 2) (s : Fin 32) {off : Fin 4 → ℕ} (inb : ∀ a, off a + S1x1x128x256.size a ≤ S2x32x128x256.size a)
    (ho : off = ![b.val, s.val, 0, 0]) :
    (Memref.whole cc0_stg3_0).view.readAt (Elt F) (Rect.unit (s := S2x32x128x256) off S1x1x128x256.size inb).toLoadRect K = kvB K b s :=
  read_k K b s inb ho

/-- A load of a whole staging buffer reads its contents. -/
theorem read_x (X : Vec F S256x512 .f32) :
    (Memref.whole cc0_stg0_0).view.readAt (Elt F) (Rect.unit (s := S256x512) ![0, 0] S256x512.size inb_S256x512_S256x512_0_0).toLoadRect X = X :=
  View.readAt_full _ _ _
/-- What is read of the accumulator is the whole of it. -/
theorem read_acc (X : Vec F S256x512 .f32) :
    (Memref.whole cc0_stg4_0).view.readAt (Elt F) (Rect.unit (s := S256x512) ![0, 0] S256x512.size inb_S256x512_S256x512_0_0).toLoadRect X = X :=
  View.readAt_full _ _ _
/-- A store of the whole output buffer leaves what it stored. -/
theorem writes_acc (A X : Vec F S256x512 .f32) (L : List (View.Piece (Elt F) S256x512 .f32)) :
    (Memref.whole cc0_stg4_0).view.writes (Elt F) A (⟨Rect.unit (s := S256x512) ![0, 0] S256x512.size inb_S256x512_S256x512_0_0, X⟩ :: L) = X := by
  have h := View.read_writes_full (Val := Elt F) (s := S256x512) (e := .f32) (Memref.whole cc0_stg4_0).view A (off := ![0, 0]) inb_S256x512_S256x512_0_0 X L
  exact (View.read_whole (Val := Elt F) cc0_stg4_0 _).symm.trans h

/-- In trip `t` the query weights are read from slot `slotAt c t`; -/
theorem off4_slot (c : Dev nD) (t : Hop) : k0_off4 c t = ![(slotAt c t.val).val, 0, 0, 0] := k0_off4_eq c t
/-- the output weights from the same slot's second half; -/
theorem off5_slot (c : Dev nD) (t : Hop) : k0_off5 c t = ![(slotAt c t.val).val, 1, 0, 0] := k0_off5_eq c t
/-- the first batch's keys and values from that chunk; -/
theorem off6_slot (c : Dev nD) (t : Hop) : k0_off6 c t = ![(0 : Fin 2).val, (slotAt c t.val).val, 0, 0] := k0_off6_eq c t
/-- and the second batch's from that chunk. -/
theorem off7_slot (c : Dev nD) (t : Hop) : k0_off7 c t = ![(1 : Fin 2).val, (slotAt c t.val).val, 0, 0] := k0_off7_eq c t
/-- After the loop the query weights are read from slot `slotAt c 31`; -/
theorem off8_slot (c : Dev nD) : k0_off8 c = ![(slotAt c 31).val, 0, 0, 0] := by rw [slotAt_last]; exact k0_off8_eq c
/-- the output weights from the same slot's second half; -/
theorem off9_slot (c : Dev nD) : k0_off9 c = ![(slotAt c 31).val, 1, 0, 0] := by rw [slotAt_last]; exact k0_off9_eq c
/-- the first batch's keys and values from that chunk; -/
theorem off10_slot (c : Dev nD) : k0_off10 c = ![(0 : Fin 2).val, (slotAt c 31).val, 0, 0] := by rw [slotAt_last]; exact k0_off10_eq c
/-- and the second batch's from that chunk. -/
theorem off11_slot (c : Dev nD) : k0_off11 c = ![(1 : Fin 2).val, (slotAt c 31).val, 0, 0] := by rw [slotAt_last]; exact k0_off11_eq c

/-- The context, from its parts by batch. -/
theorem ctxAt_eq (m : IVec S128x128 1) (X : Vec F S256x512 .f32) (K V : Vec F S2x32x128x256 .f32) (G : CommC (F := F)) (s : Fin 32) :
    ctxOf m (k0_pay3 (wqB G s) X) (fun b => if b = 0 then k0_pay4 (kvB K 0 s) else k0_pay4 (kvB K 1 s)) (fun b => if b = 0 then k0_pay5 (kvB V 0 s) else k0_pay5 (kvB V 1 s))
      = ctxAt m X K V G s := by
  unfold ctxAt
  congr 1
  · funext b
    match b with
    | 0 => rfl
    | 1 => rfl
  · funext b
    match b with
    | 0 => rfl
    | 1 => rfl

end Cert.KernelIdeal.Own

end
-- ==== Proof.KernelIdeal.Trip.lean ====
module

public import proofs.«01_k».proof.Proof.KernelIdeal.Hop
public import proofs.«01_k».proof.Proof.KernelIdeal.Chunk

@[expose] public section

noncomputable section

namespace Cert.KernelIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

set_option maxHeartbeats 1000000 in
/-- One trip of the ring: the slot goes on to the neighbour while its chunk is added to the output, and the next slot comes. -/
theorem trip_step (G : CommC (F := F)) (κ : GSem nD τ sig → ℕ) (c : Dev nD) (t : Hop) (W : Waits sig Unit) (v2 v7 : BitVec 32) (v72 : IVec S128x128 1) (v75 v76 : IVec S128x128 32)
    (X : Vec F S256x512 .f32) (Kg Vg : Vec F S2x32x128x256 .f32) (A : Vec F S256x512 .f32) (f : Vec F S256x256 .f32) (Kt : PUnit → sProp 𝕄) :
    iprop(todo G κ c t ∗ levAts L lv ∗ owes (c : Thread nD τ) (owedFrom c t.val) W ∗ slotPts c (slotAt c t.val) fullShare G ∗ pts c cc0_stg0_0 X ∗ pts c cc0_stg2_0 Kg ∗ pts c cc0_stg3_0 Vg ∗ pts c cc0_stg4_0 A ∗ pts c cc0_scratch1 f
        ∗ ((hopDone G c t ∗ (∃ W', owes (c : Thread nD τ) (owedFrom c (t.val + 1)) W') ∗ slotPts c (slotAt c (t.val + 1)) fullShare G ∗ pts c cc0_stg0_0 X ∗ pts c cc0_stg2_0 Kg ∗ pts c cc0_stg3_0 Vg
            ∗ pts c cc0_stg4_0 (addChunk (k0_pay29 v72 v75 v76) X Kg Vg G (slotAt c t.val) A) ∗ ∃ f', pts c cc0_scratch1 f') -∗ Kt ⟨⟩))
      ⊢ wp frame (wpE (defs₀ (F := F)) 𝒱₀ c none) Set.univ
        (k0_t1_body (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) cc0_scratch2 cc0_scratch3 c v2 v7 v72 v75 v76 t ⟨⟩) Kt := by
  unfold todo
  iintro ⟨⟨#HI, HatS, HatV, HtS, HtN, HcV, ⟨%fn, HsN⟩⟩, #Hlev, HO, HS, HX, HK, HV, HA, HC, Hk⟩
  ihave HS' := (slot_halves c (slotAt c t.val) G).1 $$ HS
  icases HS' with ⟨HSl, HSr⟩
  unfold k0_t1_body
  rw [k0_part1_eq_skeleton]; unfold k0_part1_skel
  rw [wp_bind]
  iapply (hop_send G κ c t W fn (dev3_eq c))
  isplitr; · iexact HI
  isplitl [HSl]; · iexact HSl
  isplitl [HsN]; · iexact HsN
  isplitl [HO]; · iexact HO
  isplitl [HtS]; · iexact HtS
  isplitl [HtN]; · iexact HtN
  iintro ⟨HcS, HO⟩
  ihave HSr := (Entails.of_eq (show (slotPts c (slotAt c t.val) fullShare.right G : sProp 𝕄) = ((hopV c t).view.loc (c : Thread nD τ) ↦[(hopV c t).view.set]{fullShare.right} (G : Buf (Elt F) ((hopV c t).view.loc (c : Thread nD τ)))) by rw [hopV_set]; rfl)) $$ HSr
  sl_exec
  have hctx : trip_step.sl.v483 G c t v72 v75 v76 X Kg Vg = ctxAt (k0_pay29 v72 v75 v76) X Kg Vg G (slotAt c t.val) := by
    unfold trip_step.sl.v483 trip_step.sl.HC_8
    refine (readCov_blocks (k0_pay29 v72 v75 v76)
      (k0_pay3 (commM.view.readAt (Elt F) (Rect.unit (s := S32x2x512x256) (k0_off4 c t) S1x1x512x256.size (k0_off4_inb c t)).toLoadRect G)
        ((Memref.whole cc0_stg0_0).view.readAt (Elt F) (Rect.unit (s := S256x512) ![0, 0] S256x512.size inb_S256x512_S256x512_0_0).toLoadRect X))
      (k0_pay4 ((Memref.whole cc0_stg2_0).view.readAt (Elt F) (Rect.unit (s := S2x32x128x256) (k0_off6 c t) S1x1x128x256.size (k0_off6_inb c t)).toLoadRect Kg))
      (k0_pay5 ((Memref.whole cc0_stg3_0).view.readAt (Elt F) (Rect.unit (s := S2x32x128x256) (k0_off6 c t) S1x1x128x256.size (k0_off6_inb c t)).toLoadRect Vg))
      (k0_pay4 ((Memref.whole cc0_stg2_0).view.readAt (Elt F) (Rect.unit (s := S2x32x128x256) (k0_off7 c t) S1x1x128x256.size (k0_off7_inb c t)).toLoadRect Kg))
      (k0_pay5 ((Memref.whole cc0_stg3_0).view.readAt (Elt F) (Rect.unit (s := S2x32x128x256) (k0_off7 c t) S1x1x128x256.size (k0_off7_inb c t)).toLoadRect Vg))
      _ _ _ _ _ _ _ _ rfl rfl rfl rfl rfl rfl rfl rfl).trans ?_
    rw [read_wq G (slotAt c t.val) _ (off4_slot c t), read_k Kg 0 (slotAt c t.val) _ (off6_slot c t), read_k Kg 1 (slotAt c t.val) _ (off7_slot c t),
      read_v Vg 0 (slotAt c t.val) _ (off6_slot c t), read_v Vg 1 (slotAt c t.val) _ (off7_slot c t), read_x]
    exact ctxAt_eq _ _ _ _ _ _
  have hwo : trip_step.sl.r_1 G c t = k0_pay2 (woB G (slotAt c t.val)) := by
    unfold trip_step.sl.r_1
    rw [read_wo G (slotAt c t.val) _ (off5_slot c t)]
  rw [writes_acc, read_acc, hctx, hwo]
  iapply (hop_waitSend G κ c t W)
  isplitr; · iexact HI
  isplitr; · iexact Hlev
  isplitl [HcS]; · iexact HcS
  isplitl [HO]; · iexact HO
  isplitl [HatS]; · iexact HatS
  iintro ⟨HO, HatS, HSl⟩
  iapply (hop_waitRecv G κ c t (insert (SemLoc.dma (sendS t), ()) W))
  isplitr; · iexact HI
  isplitr; · iexact Hlev
  isplitl [HcV]; · iexact HcV
  isplitl [HO]; · iexact HO
  isplitl [HatV]; · iexact HatV
  iintro ⟨HO, HatV, HSn⟩
  rw [show ((Prog.ret PUnit.unit : Prog (TpuEff nD τ sig (Elt F) Λ₀ .tc) PUnit).bind fun _ => pure PUnit.unit) = Prog.ret PUnit.unit from rfl, wp_ret]
  unfold hopInvs
  icases HI with ⟨#HIs, #HIr, -⟩
  imod (hop_close G (κ (sendCell c t)) (sendCell c t)) $$ [HatS] with HvS
  · isplitr; · iexact HIs
    iexact HatS
  imod (hop_close G (κ (recvCell c t)) (recvCell c t)) $$ [HatV] with HvR
  · isplitr; · iexact HIr
    iexact HatV
  ihave HSr := (Entails.of_eq (show ((hopV c t).view.loc (c : Thread nD τ) ↦[(hopV c t).view.set]{fullShare.right} (G : Buf (Elt F) ((hopV c t).view.loc (c : Thread nD τ))) : sProp 𝕄) = slotPts c (slotAt c t.val) fullShare.right G by rw [hopV_set]; rfl)) $$ HSr
  ihave HS := (slot_halves c (slotAt c t.val) G).2 $$ [HSl HSr]
  · isplitl [HSl]; · iexact HSl
    iexact HSr
  imodintro
  iapply Hk
  unfold hopDone
  isplitl [HvS HvR HS]
  · isplitl [HvS]; · iexact HvS
    isplitl [HvR]; · iexact HvR
    iexact HS
  isplitl [HO]; · iexists _; iexact HO
  isplitl [HSn]; · iexact HSn
  isplitl [HX]; · iexact HX
  isplitl [HK]; · iexact HK
  isplitl [HV]; · iexact HV
  isplitl [HA]; · iexact HA
  iexists _; iexact HC

end Cert.KernelIdeal.Own

end
-- ==== Proof.KernelIdeal.Slots.lean ====
module

public import proofs.«01_k».proof.Proof.KernelIdeal.Trip
public import Idealize.ShloMosaic.Lib.Ring

@[expose] public section

noncomputable section

namespace Cert.KernelIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

/-! ## The communication buffer, slot by slot -/

/-- Different slots share no index; -/
theorem slots_disjoint (s s' : Fin 32) (h : s ≠ s') : Disjoint (slotSet s) (slotSet s') := by
  rw [Finset.disjoint_left]
  intro i hi hi'
  rw [mem_slotSet] at hi hi'
  exact h (Fin.ext (hi.symm.trans hi'))
/-- and together they are the whole buffer. -/
theorem slots_cover : Finset.univ.biUnion slotSet = Finset.univ := by
  ext i
  simp only [Finset.mem_biUnion, Finset.mem_univ, true_and, iff_true]
  exact ⟨i 0, (mem_slotSet _ _).mpr rfl⟩

/-- The whole buffer is its thirty-two slots. -/
theorem comm_slots (c : Dev nD) (f : CommC (F := F)) :
    (pts c cc0_scratch0 f : sProp 𝕄) = bigSep Finset.univ fun s : Fin 32 => slotPts c s fullShare f :=
  Ring.pointsTo_blocks (ℓ := commM.view.loc (c : Thread nD τ)) slotSet slots_disjoint slots_cover f

/-- One slot set aside, the other thirty-one by hop. -/
theorem slots_by_hop (Φ : Fin 32 → sProp 𝕄) (a : Fin 32) (g : Hop ↪ Fin 32) (ha : ∀ t, g t ≠ a) :
    bigSep Finset.univ Φ = iprop(Φ a ∗ bigSep Finset.univ fun t : Hop => Φ (g t)) := by
  have hn : a ∉ Finset.univ.map g := by
    intro h
    obtain ⟨t, -, ht⟩ := Finset.mem_map.mp h
    exact ha t ht
  have hu : (Finset.univ : Finset (Fin 32)) = insert a (Finset.univ.map g) := by
    symm
    rw [← Finset.card_eq_iff_eq_univ, Finset.card_insert_of_notMem hn, Finset.card_map]
    rfl
  rw [hu, bigSep_insert hn, bigSep_map]; rfl

/-- The slots a device uses, counted from `j` on, by hop. -/
def slotE (c : Dev nD) (j : ℕ) (hj : j ≤ 1) : Hop ↪ Fin 32 :=
  ⟨fun t => slotAt c (t.val + j), fun t u h => Fin.ext (by
    have := slotAt_inj c _ _ (by have := trips_lt t; omega) (by have := trips_lt u; omega) h
    omega)⟩

/-- The own slot first, the others as the ring will fill them. -/
theorem slots_first (c : Dev nD) (Φ : Fin 32 → sProp 𝕄) :
    bigSep Finset.univ Φ = iprop(Φ c ∗ bigSep Finset.univ fun t : Hop => Φ (slotAt c (t.val + 1))) :=
  slots_by_hop Φ c (slotE c 1 le_rfl) fun t h => by
    rw [← slotAt_zero c] at h
    have := slotAt_inj c (t.val + 1) 0 (by have := trips_lt t; omega) (by omega) (by rw [slotAt_zero] at h ⊢; exact h)
    omega
/-- The last slot filled set aside, the others by the hop that passed them on. -/
theorem slots_last (c : Dev nD) (Φ : Fin 32 → sProp 𝕄) :
    bigSep Finset.univ Φ = iprop(Φ (slotAt c 31) ∗ bigSep Finset.univ fun t : Hop => Φ (slotAt c t.val)) :=
  slots_by_hop Φ (slotAt c 31) (slotE c 0 (by omega)) fun t h => by
    have := slotAt_inj c (t.val + 0) 31 (by have := trips_lt t; omega) (by omega) h
    have := trips_lt t
    omega

/-! ## Hops before and after the loop -/

/-- What hop `t` of device `c` starts from before the barrier: as `todo`, without what the neighbour hands over there. -/
def hopPre (G : CommC (F := F)) (κ : GSem nD τ sig → ℕ) (c : Dev nD) (t : Hop) : sProp 𝕄 :=
  iprop(cellInv ER (ringRd G) (κ (sendCell c t)) (sendCell c t) ∗ cellInv ER (ringRd G) (κ (recvCell c t)) (recvCell c t)
    ∗ cellInv ER (ringRd G) (κ (recvCell (nxt c) t)) (recvCell (nxt c) t)
    ∗ reached ER (sendCell c t) 0 ∗ atPos ER (sendCell c t) 0 ∅ 0 ∗ atPos ER (recvCell c t) 0 ∅ 0
    ∗ dutyTok ER (sendCell c t) 0 true ∗ dutyTok ER (recvCell (nxt c) t) 0 true ∗ cred (tallyAt (recvCell c t) () N))

/-- What a hop holds before the barrier, with the neighbour's slot, is what it starts from; -/
theorem todo_of (G : CommC (F := F)) (κ : GSem nD τ sig → ℕ) (c : Dev nD) (t : Hop) :
    iprop(hopPre G κ c t ∗ (∃ f, slotPts (nxt c) (slotAt c t.val) fullShare f) ∗ reached ER (recvCell (nxt c) t) 0) ⊢ (todo G κ c t : sProp 𝕄) := by
  unfold hopPre todo hopInvs
  iintro ⟨⟨#H1, #H2, #H3, #H4, H5, H6, H7, H8, H9⟩, H10, #H11⟩
  isplitr
  · isplitr; · iexact H1
    isplitr; · iexact H2
    isplitr; · iexact H3
    isplitr; · iexact H4
    iexact H11
  isplitl [H5]; · iexact H5
  isplitl [H6]; · iexact H6
  isplitl [H7]; · iexact H7
  isplitl [H8]; · iexact H8
  isplitl [H9]; · iexact H9
  iexact H10

/-- and for all hops at once, with what the barrier pays. -/
theorem todo_all (G : CommC (F := F)) (κ : GSem nD τ sig → ℕ) (c : Dev nD) :
    iprop((bigSep Finset.univ fun t : Hop => hopPre G κ c t) ∗ barPay (F := F) c) ⊢ (bigSep Finset.univ fun t : Hop => todo G κ c t : sProp 𝕄) := by
  unfold barPay
  exact (Entails.of_eq (bigSep_sep _ _ _).symm).trans (bigSep_mono fun t _ => todo_of G κ c t)

/-- What the hops from `k` on start from. -/
def todoFrom (G : CommC (F := F)) (κ : GSem nD τ sig → ℕ) (c : Dev nD) (k : ℕ) : sProp 𝕄 :=
  bigSep (Finset.univ.filter fun t : Hop => k ≤ t.val) fun t => todo G κ c t
/-- What the hops before `k` leave. -/
def doneTo (G : CommC (F := F)) (c : Dev nD) (k : ℕ) : sProp 𝕄 :=
  bigSep (Finset.univ.filter fun t : Hop => t.val < k) fun t => hopDone G c t

/-- Before the loop, every hop is to come; -/
theorem todoFrom_zero (G : CommC (F := F)) (κ : GSem nD τ sig → ℕ) (c : Dev nD) :
    (todoFrom G κ c 0 : sProp 𝕄) = bigSep Finset.univ fun t : Hop => todo G κ c t := by
  unfold todoFrom
  rw [Finset.filter_true_of_mem fun t _ => Nat.zero_le _]
/-- and each trip takes one of them. -/
theorem todoFrom_step (G : CommC (F := F)) (κ : GSem nD τ sig → ℕ) (c : Dev nD) (t : Hop) :
    (todoFrom G κ c t.val : sProp 𝕄) = iprop(todo G κ c t ∗ todoFrom G κ c (t.val + 1)) := by
  unfold todoFrom
  rw [filter_step, bigSep_insert (filter_notMem t)]; rfl
/-- Before the loop, no hop is done; -/
theorem doneTo_zero (G : CommC (F := F)) (c : Dev nD) : (doneTo G c 0 : sProp 𝕄) = iprop(emp) := by
  unfold doneTo
  rw [Finset.filter_false_of_mem fun t _ => Nat.not_lt_zero _, bigSep_empty]; rfl
/-- each trip adds one; -/
theorem doneTo_step (G : CommC (F := F)) (c : Dev nD) (t : Hop) :
    (doneTo G c (t.val + 1) : sProp 𝕄) = iprop(hopDone G c t ∗ doneTo G c t.val) := by
  unfold doneTo
  rw [show (Finset.univ.filter fun u : Hop => u.val < t.val + 1) = insert t (Finset.univ.filter fun u : Hop => u.val < t.val) by
    ext u; simp only [Finset.mem_filter, Finset.mem_univ, true_and, Finset.mem_insert, Fin.ext_iff]; omega]
  rw [bigSep_insert (by simp only [Finset.mem_filter, Finset.mem_univ, true_and]; omega)]; rfl
/-- and after the loop every hop is done. -/
theorem doneTo_end (G : CommC (F := F)) (c : Dev nD) : (doneTo G c 31 : sProp 𝕄) = bigSep Finset.univ fun t : Hop => hopDone G c t := by
  unfold doneTo
  rw [Finset.filter_true_of_mem fun t _ => trips_lt t]

/-- After the loop: every hop's counters at zero and the whole communication buffer, holding every device's weights. -/
theorem done_all (G : CommC (F := F)) (c : Dev nD) :
    iprop(doneTo G c 31 ∗ slotPts c (slotAt c 31) fullShare G)
      ⊢ (iprop((bigSep Finset.univ fun t : Hop => iprop(semVal (sendCell c t) 0 ∗ semVal (recvCell c t) 0)) ∗ pts c cc0_scratch0 G) : sProp 𝕄) := by
  rw [doneTo_end, comm_slots, slots_last c]
  have h : (bigSep Finset.univ fun t : Hop => (hopDone G c t : sProp 𝕄))
      = iprop((bigSep Finset.univ fun t : Hop => iprop(semVal (sendCell c t) 0 ∗ semVal (recvCell c t) 0)) ∗ bigSep Finset.univ fun t : Hop => slotPts c (slotAt c t.val) fullShare G) := by
    refine Eq.trans (bigSep_congr fun t _ => ?_) (bigSep_sep _ _ _)
    unfold hopDone
    exact Idealize.SL.BI.equiv_iff.mp ⟨Idealize.SL.BI.sep_assoc', Idealize.SL.BI.sep_assoc⟩
  rw [h]
  iintro ⟨⟨H1, H2⟩, H3⟩
  isplitl [H1]; · iexact H1
  isplitl [H3]; · iexact H3
  iexact H2

end Cert.KernelIdeal.Own

end
-- ==== Proof.KernelIdeal.Start.lean ====
module

public import proofs.«01_k».proof.Proof.KernelIdeal.Slots

@[expose] public section

noncomputable section

namespace Cert.KernelIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

/-! ## The barrier -/

/-- The signal to the left neighbour hands it the own slots it will write. -/
theorem signal_prv (G : CommC (F := F)) (κ : ℕ) (c : Dev nD) (W : Waits sig Unit) {d : Dev nD} (hd : d = prv c) {n : ℤ} (hn : n = ((1 : ℕ) : ℤ))
    {α : Type} {k : PUnit → Prog (TpuEff nD τ sig (Elt F) Λ₀ .tc) α} (Kt : α → sProp 𝕄) :
    iprop(cellInv ER (ringRd G) κ (barCell (prv c)) ∗ owes (c : Thread nD τ) (O₀ c) W ∗ dutyTok ER (barCell (prv c)) 0 true
        ∗ reached ER (barCell (prv c)) 0
        ∗ (bigSep Finset.univ fun t : Hop => iprop((∃ f, slotPts c (slotAt c (t.val + 1)) fullShare f) ∗ reached ER (recvCell c t) 0))
        ∗ (owes (c : Thread nD τ) (owedFrom c 0 + tallyAt (barCell (nxt c)) () 1) W -∗ wp frame (wpE (defs₀ (F := F)) 𝒱₀ c none) Set.univ (k ⟨⟩) Kt))
      ⊢ wp frame (wpE (defs₀ (F := F)) 𝒱₀ c none) Set.univ (Prog.op (.semSignal (d : Thread nD τ) barS n) k) Kt := by
  subst hd hn
  iintro ⟨#HI, HO, Ht, #Hr, Hs, Hk⟩
  iapply (Rounds.wp_signal 𝒱₀ ER (ringRd G) (c : Thread nD τ) none (dst := (prv c : Thread nD τ)) (κ := κ) (r := 0)
      (d := true) (by rw [duties_bar]; exact Finset.mem_univ _) (amount_bar G (prv c) true) () (owedFrom c 0 + tallyAt (barCell (nxt c)) () 1) rfl)
    $$ [HO Ht Hs]
  · isplitr; · iexact HI
    isplitl [HO]; · iexact HO
    isplitl [Ht]; · iexact Ht
    isplitl [Hs]
    · iapply (Entails.of_eq (show (bigSep Finset.univ fun t : Hop => iprop((∃ f, slotPts c (slotAt c (t.val + 1)) fullShare f) ∗ reached ER (recvCell c t) 0) : sProp 𝕄)
        = (ringRd G).payload (barCell (prv c)) 0 true from by
          rw [payload_bar]
          show _ = barPay (prv c)
          unfold barPay
          refine bigSep_congr fun t _ => ?_
          rw [nxt_prv, slotAt_prv c t.val (trips_lt t)])) $$ Hs
    · iexact Hr
  iexact Hk

/-- The signal to the right neighbour hands nothing over. -/
theorem signal_nxt (G : CommC (F := F)) (κ : ℕ) (c : Dev nD) (W : Waits sig Unit) {d : Dev nD} (hd : d = nxt c) {n : ℤ} (hn : n = ((1 : ℕ) : ℤ))
    {α : Type} {k : PUnit → Prog (TpuEff nD τ sig (Elt F) Λ₀ .tc) α} (Kt : α → sProp 𝕄) :
    iprop(cellInv ER (ringRd G) κ (barCell (nxt c)) ∗ owes (c : Thread nD τ) (owedFrom c 0 + tallyAt (barCell (nxt c)) () 1) W ∗ dutyTok ER (barCell (nxt c)) 0 false
        ∗ reached ER (barCell (nxt c)) 0
        ∗ (owes (c : Thread nD τ) (owedFrom c 0) W -∗ wp frame (wpE (defs₀ (F := F)) 𝒱₀ c none) Set.univ (k ⟨⟩) Kt))
      ⊢ wp frame (wpE (defs₀ (F := F)) 𝒱₀ c none) Set.univ (Prog.op (.semSignal (d : Thread nD τ) barS n) k) Kt := by
  subst hd hn
  iintro ⟨#HI, HO, Ht, #Hr, Hk⟩
  iapply (Rounds.wp_signal 𝒱₀ ER (ringRd G) (c : Thread nD τ) none (dst := (nxt c : Thread nD τ)) (κ := κ) (r := 0)
      (d := false) (by rw [duties_bar]; exact Finset.mem_univ _) (amount_bar G (nxt c) false) () (owedFrom c 0) rfl)
    $$ [HO Ht]
  · isplitr; · iexact HI
    isplitl [HO]; · iexact HO
    isplitl [Ht]; · iexact Ht
    isplitr
    · rw [payload_bar]; simp only [Bool.false_eq_true, if_false]; iempintro
    · iexact Hr
  iexact Hk

/-- The wait for both neighbours: the right neighbour's slots come. -/
theorem bar_wait (G : CommC (F := F)) (κ : ℕ) (c : Dev nD) (W : Waits sig Unit) {n : ℤ} (hn : n = ((2 : ℕ) : ℤ))
    {α : Type} {k : PUnit → Prog (TpuEff nD τ sig (Elt F) Λ₀ .tc) α} (Kt : α → sProp 𝕄) :
    iprop(cellInv ER (ringRd G) κ (barCell c) ∗ levAts L lv ∗ cred (tallyAt (barCell c) () 2) ∗ owes (c : Thread nD τ) (owedFrom c 0) W
        ∗ atPos ER (barCell c) 0 ∅ 0
        ∗ ((owes (c : Thread nD τ) (owedFrom c 0) (insert (SemLoc.reg barS, ()) W) ∗ atPos ER (barCell c) (0 + 1) ∅ 0 ∗ barPay c)
            -∗ wp frame (wpE (defs₀ (F := F)) 𝒱₀ c none) Set.univ (k ⟨⟩) Kt))
      ⊢ wp frame (wpE (defs₀ (F := F)) 𝒱₀ c none) Set.univ (Prog.op (.semWait barS n) k) Kt := by
  subst hn
  iintro ⟨#HI, #Hlev, Hc, HO, Hat, Hk⟩
  iapply (Rounds.wp_wait_rest_token 𝒱₀ ER (ringRd G) (c : Thread nD τ) none (κ := κ)
      (wpE_semWait_eq 𝒱₀ (c : Thread nD τ) none Set.univ) (Set.mem_univ _) () (O := owedFrom c 0) (W := W) (R := 0) (m := 0) (T := ∅)
      ((Nat.zero_add 2).trans (expect_bar G c).symm)) $$ [Hc HO Hat]
  · isplitr; · iexact HI
    isplitl [Hc]; · iexact Hc
    isplitl [HO]; · iexact HO
    isplitr; · iapply (mayWait_from c (.reg barS) 0 1 (le_of_eq (lv_bar c ())) (by omega)); iexact Hlev
    iexact Hat
  iintro ⟨HO, Hat, -, Hpay⟩
  ihave Hp := (Entails.of_eq (rest_bar G c)) $$ Hpay
  icases Hp with ⟨Hp, -⟩
  iapply Hk
  isplitl [HO]; · iexact HO
  isplitl [Hat]; · iexact Hat
  iexact Hp

/-! ## The opening of the body -/

/-- The own slot, as a view. -/
abbrev ownV (c : Dev nD) : Memref sig .tc .vmem S2x512x256 .f32 :=
  (commM.slice (Rect.unit (s := S32x2x512x256) (k0_off1 c) S1x2x512x256.size (k0_off1_inb c)) (fun _ => rfl)).squeeze
    S2x512x256 squeezes_S1x2x512x256_S2x512x256

/-- The view of the own slot covers slot `c`. -/
theorem ownV_set (c : Dev nD) : (ownV c).view.set = slotSet c := by
  unfold ownV
  rw [Memref.set_view_squeeze]
  show ((View.whole cc0_scratch0).slice (Rect.unit (s := S32x2x512x256) (k0_off1 c) S1x2x512x256.size (k0_off1_inb c))).set = _
  rw [View.set_slice_whole]
  ext i
  rw [mem_slotSet, Rect.mem_set_unit]
  simp only [k0_off1_eq]
  constructor
  · intro h
    have h0 := h (0 : Fin 4)
    simp only [Matrix.cons_val_zero, S1x2x512x256] at h0
    omega
  · intro h a
    have hi : (i a).val < S32x2x512x256.size a := (i a).isLt
    fin_cases a <;> simp [S1x2x512x256, S32x2x512x256] at hi h ⊢ <;> omega

/-- The own slot, owned as a slot or through its view, is the same resource. -/
theorem own_pts (c : Dev nD) (f : CommC (F := F)) :
    (slotPts c c fullShare f : sProp 𝕄) = ((ownV c).view.loc (c : Thread nD τ) ↦[(ownV c).view.set]{fullShare} (f : Buf (Elt F) ((ownV c).view.loc (c : Thread nD τ)))) := by
  rw [ownV_set]; rfl

/-- An index of the communication buffer, within its slot. -/
def inSlot (i : S32x2x512x256.Idx) : S2x512x256.Idx := fun a => match a with
  | 0 => ⟨(i 1).val, (i 1).isLt⟩
  | 1 => ⟨(i 2).val, (i 2).isLt⟩
  | 2 => ⟨(i 3).val, (i 3).isLt⟩

/-- What the store of the own packed weights leaves in the own slot. -/
theorem own_write (c : Dev nD) (P : Vec F S2x512x256 .f32) (f : CommC (F := F)) (i : S32x2x512x256.Idx) (hi : i ∈ slotSet c) :
    View.write (Elt F) (commM.access (Rect.unit (s := S32x2x512x256) (k0_off1 c) S1x2x512x256.size (k0_off1_inb c))) f
      (k0_pay21 P) Finset.univ i = P (inSlot i) := by
  rw [mem_slotSet] at hi
  let x : S1x2x512x256.Idx := fun a => match a with
    | 0 => ⟨0, Nat.one_pos⟩
    | 1 => ⟨(i 1).val, (i 1).isLt⟩
    | 2 => ⟨(i 2).val, (i 2).isLt⟩
    | 3 => ⟨(i 3).val, (i 3).isLt⟩
  have hx : (commM.access (Rect.unit (s := S32x2x512x256) (k0_off1 c) S1x2x512x256.size (k0_off1_inb c))).emb x = i := by
    funext a
    refine Fin.ext ?_
    show k0_off1 c a + 1 * (x a).val = (i a).val
    rw [k0_off1_eq]
    match a with
    | 0 => show c.val + 1 * 0 = (i 0).val; omega
    | 1 => show 0 + 1 * (i 1).val = (i 1).val; omega
    | 2 => show 0 + 1 * (i 2).val = (i 2).val; omega
    | 3 => show 0 + 1 * (i 3).val = (i 3).val; omega
  have h := View.write_emb_of_mem (v := commM.access (Rect.unit (s := S32x2x512x256) (k0_off1 c) S1x2x512x256.size (k0_off1_inb c))) (Val := Elt F)
    f (k0_pay21 P) (Finset.mem_univ x)
  rw [hx] at h
  refine h.trans ?_
  show k0_pay21 P x = P (inSlot i)
  unfold k0_pay21
  rw [shapeCast_self]
  refine shapeCast_apply _ _ _ _ ?_
  rw [Shape.rowMajor_val_three, Shape.rowMajor_val_four]
  show ((i 1).val * 512 + (i 2).val) * 256 + (i 3).val = ((0 * 2 + (i 1).val) * 512 + (i 2).val) * 256 + (i 3).val
  rw [Nat.zero_mul, Nat.zero_add]

/-- The own packed weights are stored into the own slot. -/
theorem own_store (G : CommC (F := F)) (c : Dev nD) (P : Vec F S2x512x256 .f32) (hG : ∀ i ∈ slotSet c, G i = P (inSlot i)) (f : CommC (F := F))
    {α : Type} {k : PUnit → Prog (TpuEff nD τ sig (Elt F) Λ₀ .tc) α} (Kt : α → sProp 𝕄) :
    iprop(slotPts c c fullShare f ∗ pts c cc0_stg1_0 P
        ∗ ((slotPts c c fullShare G ∗ pts c cc0_stg1_0 P) -∗ wp frame (wpE (defs₀ (F := F)) 𝒱₀ c none) Set.univ (k ⟨⟩) Kt))
      ⊢ wp frame (wpE (defs₀ (F := F)) 𝒱₀ c none) Set.univ
        (Prog.lift (.load (Memref.whole cc0_stg1_0) (Rect.unit (s := S2x512x256) ![0, 0, 0] S2x512x256.size inb_S2x512x256_S2x512x256_0_0_0).toLoadRect (View.loadsAt_vmem h_S2x512x256)) >>= fun v13 =>
          Prog.lift (.load commM (Rect.unit (s := S32x2x512x256) (k0_off1 c) S1x2x512x256.size (k0_off1_inb c)).toLoadRect (View.loadsAt_vmem h_S1x2x512x256)) >>= fun _ =>
          Prog.lift (.store commM (Rect.unit (s := S32x2x512x256) (k0_off1 c) S1x2x512x256.size (k0_off1_inb c)) (k0_pay21 v13) Finset.univ (View.stores_vmem_bits_univ h_S1x2x512x256 rfl) (.inl rfl)) >>= k) Kt := by
  rw [own_pts]
  iintro ⟨Hs, HP, Hk⟩
  sl_exec
  iapply Hk
  isplitr [HP]
  · unfold own_store.sl.Hs_w1
    iapply (Entails.of_eq (show ((ownV c).view.loc (c : Thread nD τ) ↦[(ownV c).view.set]{fullShare} (View.write (Elt F) (commM.access (Rect.unit (s := S32x2x512x256) (k0_off1 c) S1x2x512x256.size (k0_off1_inb c))) f
      (k0_pay21 ((Memref.whole cc0_stg1_0).view.readAt (Elt F) (Rect.unit (s := S2x512x256) ![0, 0, 0] S2x512x256.size inb_S2x512x256_S2x512x256_0_0_0).toLoadRect P)) Finset.univ) : sProp 𝕄) = slotPts c c fullShare G from by
        rw [ownV_set]
        refine pointsTo_congr ?_
        intro i hi
        rw [hG i hi, ← own_write c P f i hi]
        exact congrArg (fun X => View.write (Elt F) (commM.access (Rect.unit (s := S32x2x512x256) (k0_off1 c) S1x2x512x256.size (k0_off1_inb c))) f (k0_pay21 X) Finset.univ i) (View.readAt_full _ _ _))) $$ Hs
  · iexact HP

/-- The constant mask, as the body computes it. -/
def maskV : IVec S128x128 1 :=
  k0_pay29 (k0_pay26 (iota .tc S128x128 32 [0] iota_S128x128_d0_w32) 64#32 k0_pay22 k0_pay23 1#1)
    (k0_pay27 (iota .tc S128x128 32 [0] iota_S128x128_d0_w32) 64#32 k0_pay22 k0_pay23 1#1) k0_pay28

set_option maxHeartbeats 1000000 in
/-- The opening: the barrier with both neighbours, and the own packed weights put into the own slot. -/
theorem start_run (G : CommC (F := F)) (κ : GSem nD τ sig → ℕ) (c : Dev nD) (W : Waits sig Unit) (P : Vec F S2x512x256 .f32) (hG : ∀ i ∈ slotSet c, G i = P (inSlot i)) (f : CommC (F := F))
    (Kt : _ → sProp 𝕄) :
    iprop((cellInv ER (ringRd G) (κ (barCell c)) (barCell c) ∗ cellInv ER (ringRd G) (κ (barCell (nxt c))) (barCell (nxt c)) ∗ cellInv ER (ringRd G) (κ (barCell (prv c))) (barCell (prv c))
          ∗ reached ER (barCell (nxt c)) 0 ∗ reached ER (barCell (prv c)) 0)
        ∗ levAts L lv ∗ atPos ER (barCell c) 0 ∅ 0 ∗ dutyTok ER (barCell (nxt c)) 0 false ∗ dutyTok ER (barCell (prv c)) 0 true
        ∗ cred (tallyAt (barCell c) () 2) ∗ owes (c : Thread nD τ) (O₀ c) W
        ∗ (bigSep Finset.univ fun t : Hop => iprop((∃ f, slotPts c (slotAt c (t.val + 1)) fullShare f) ∗ reached ER (recvCell c t) 0))
        ∗ slotPts c c fullShare f ∗ pts c cc0_stg1_0 P
        ∗ (∀ v2 v7, (owes (c : Thread nD τ) (owedFrom c 0) (insert (SemLoc.reg barS, ()) W) ∗ atPos ER (barCell c) (0 + 1) ∅ 0 ∗ barPay c
            ∗ slotPts c c fullShare G ∗ pts c cc0_stg1_0 P)
          -∗ Kt ⟨c, v2, v7, iota .tc S128x128 32 [0] iota_S128x128_d0_w32, 64#32, k0_pay22, k0_pay23, 1#1⟩))
      ⊢ wp frame (wpE (defs₀ (F := F)) 𝒱₀ c none) Set.univ
        (k0_part6 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) cc0_scratch2 cc0_scratch3) Kt := by
  rw [k0_part6_eq_skeleton]; unfold k0_part6_skel
  iintro ⟨⟨#HIb, #HIn, #HIp, #Hrn, #Hrp⟩, #Hlev, Hat, Htn, Htp, Hc, HO, Hss, Hs, HP, Hk⟩
  sl_exec
  iapply (signal_prv G (κ (barCell (prv c))) c W (dev1_eq c) (by decide))
  isplitr; · iexact HIp
  isplitl [HO]; · iexact HO
  isplitl [Htp]; · iexact Htp
  isplitr; · iexact Hrp
  isplitl [Hss]; · iexact Hss
  iintro HO
  sl_exec
  iapply (signal_nxt G (κ (barCell (nxt c))) c W (dev2_eq c) (by decide))
  isplitr; · iexact HIn
  isplitl [HO]; · iexact HO
  isplitl [Htn]; · iexact Htn
  isplitr; · iexact Hrn
  iintro HO
  sl_exec
  iapply (bar_wait G (κ (barCell c)) c W (by decide))
  isplitr; · iexact HIb
  isplitr; · iexact Hlev
  isplitl [Hc]; · iexact Hc
  isplitl [HO]; · iexact HO
  isplitl [Hat]; · iexact Hat
  iintro ⟨HO, Hat, Hbp⟩
  rw [wp_ret]
  imodintro
  iapply (own_store G c P hG f)
  isplitl [Hs]; · iexact Hs
  isplitl [HP]; · iexact HP
  iintro ⟨Hs, HP⟩
  sl_exec
  rw [wp_ret]
  imodintro
  iapply (Entails.of_eq (show Kt ⟨c, start_run.sl.v2 c, start_run.sl.v7 c, iota .tc S128x128 32 [0] iota_S128x128_d0_w32, 64#32, k0_pay22, k0_pay23, 1#1⟩
    = Kt ⟨(c : Thread nD τ).1, start_run.sl.v2 c, start_run.sl.v7 c, start_run.sl.v19, 64#32, k0_pay22, k0_pay23, 1#1⟩ from rfl))
  iapply Hk $$ %(start_run.sl.v2 c) %(start_run.sl.v7 c)
  isplitl [HO]; · iexact HO
  isplitl [Hat]; · iexact Hat
  isplitl [Hbp]; · iexact Hbp
  isplitl [Hs]; · iexact Hs
  iexact HP

end Cert.KernelIdeal.Own

end
-- ==== Proof.KernelIdeal.Body.lean ====
module

public import proofs.«01_k».proof.Proof.KernelIdeal.Start

@[expose] public section

noncomputable section

namespace Cert.KernelIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

/-! ## The loop -/

/-- What device `c` holds after `k` trips: the slot it goes on with, the hops to come, the hops done, and the output so far. -/
def loopI (G : CommC (F := F)) (κ : GSem nD τ sig → ℕ) (c : Dev nD) (m : IVec S128x128 1) (X : Vec F S256x512 .f32) (Kg Vg : Vec F S2x32x128x256 .f32) (k : ℕ) : sProp 𝕄 :=
  iprop(slotPts c (slotAt c k) fullShare G ∗ todoFrom G κ c k ∗ doneTo G c k ∗ pts c cc0_stg0_0 X ∗ pts c cc0_stg2_0 Kg ∗ pts c cc0_stg3_0 Vg
    ∗ pts c cc0_stg4_0 (accAt m X Kg Vg G c k) ∗ (∃ f, pts c cc0_scratch1 f) ∗ (∃ W, owes (c : Thread nD τ) (owedFrom c k) W) ∗ levAts L lv)

/-- One trip of the loop takes what device `c` holds after `t` trips to what it holds after `t + 1`. -/
theorem loop_step (G : CommC (F := F)) (κ : GSem nD τ sig → ℕ) (c : Dev nD) (v2 v7 : BitVec 32) (v72 : IVec S128x128 1) (v75 v76 : IVec S128x128 32)
    (X : Vec F S256x512 .f32) (Kg Vg : Vec F S2x32x128x256 .f32) (t : Hop) :
    (loopI G κ c (k0_pay29 v72 v75 v76) X Kg Vg t.val : sProp 𝕄)
      ⊢ wp frame (wpE (defs₀ (F := F)) 𝒱₀ c none) Set.univ
        (k0_t1_body (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) cc0_scratch2 cc0_scratch3 c v2 v7 v72 v75 v76 t ⟨⟩)
        (fun _ => loopI G κ c (k0_pay29 v72 v75 v76) X Kg Vg (t.val + 1)) := by
  unfold loopI
  rw [todoFrom_step, doneTo_step]
  iintro ⟨HS, ⟨Ht, HT⟩, HD, HX, HK, HV, HA, ⟨%f, HC⟩, ⟨%W, HO⟩, #Hlev⟩
  iapply (trip_step G κ c t W v2 v7 v72 v75 v76 X Kg Vg (accAt (k0_pay29 v72 v75 v76) X Kg Vg G c t.val) f)
  isplitl [Ht]; · iexact Ht
  isplitr; · iexact Hlev
  isplitl [HO]; · iexact HO
  isplitl [HS]; · iexact HS
  isplitl [HX]; · iexact HX
  isplitl [HK]; · iexact HK
  isplitl [HV]; · iexact HV
  isplitl [HA]; · iexact HA
  isplitl [HC]; · iexact HC
  iintro ⟨Hd, HO, HS, HX, HK, HV, HA, HC⟩
  isplitl [HS]; · iexact HS
  isplitl [HT]; · iexact HT
  isplitl [Hd HD]
  · isplitl [Hd]; · iexact Hd
    iexact HD
  isplitl [HX]; · iexact HX
  isplitl [HK]; · iexact HK
  isplitl [HV]; · iexact HV
  isplitl [HA]; · iexact HA
  isplitl [HC]; · iexact HC
  isplitl [HO]; · iexact HO
  iexact Hlev

/-- The whole loop takes what device `c` holds before the first trip to what it holds after the thirty-first. -/
theorem loop_run (G : CommC (F := F)) (κ : GSem nD τ sig → ℕ) (c : Dev nD) (v2 v7 : BitVec 32) (v72 : IVec S128x128 1) (v75 v76 : IVec S128x128 32)
    (X : Vec F S256x512 .f32) (Kg Vg : Vec F S2x32x128x256 .f32) (Kt : PUnit → sProp 𝕄) :
    iprop(loopI G κ c (k0_pay29 v72 v75 v76) X Kg Vg 0 ∗ (loopI G κ c (k0_pay29 v72 v75 v76) X Kg Vg 31 -∗ Kt ⟨⟩))
      ⊢ wp frame (wpE (defs₀ (F := F)) 𝒱₀ c none) Set.univ
        (Scf.Loop.for k0_t1_loop k0_t1_ok ⟨⟩ (k0_t1_body (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) cc0_scratch2 cc0_scratch3 c v2 v7 v72 v75 v76)) Kt := by
  iintro ⟨HI, Hk⟩
  iapply (Scf.wp_for _ _ _ k0_t1_loop.lb k0_t1_loop.ub k0_t1_loop.st k0_t1_ok ⟨⟩ _
    (fun k _ => loopI G κ c (k0_pay29 v72 v75 v76) X Kg Vg k) (fun t _ => loop_step G κ c v2 v7 v72 v75 v76 X Kg Vg t))
  isplitl [HI]; · iexact HI
  iintro %u HI
  iapply Hk
  iexact HI

/-! ## The last slot -/

/-- The last slot filled lies inside the communication buffer. -/
theorem last_inb (c : Dev nD) (a : Fin 4) : k0_off8 c a + S1x2x512x256.size a ≤ S32x2x512x256.size a := by
  rw [k0_off8_eq]
  have h := Nat.mod_lt (c.val + 1) (show 0 < 32 by decide)
  fin_cases a <;> simp [S1x2x512x256, S32x2x512x256] <;> omega

/-- The last slot filled, as a view. -/
abbrev lastV (c : Dev nD) : Memref sig .tc .vmem S2x512x256 .f32 :=
  (commM.slice (Rect.unit (s := S32x2x512x256) (k0_off8 c) S1x2x512x256.size (last_inb c)) (fun _ => rfl)).squeeze
    S2x512x256 squeezes_S1x2x512x256_S2x512x256

/-- The view of the last slot filled covers slot `slotAt c 31`. -/
theorem lastV_set (c : Dev nD) : (lastV c).view.set = slotSet (slotAt c 31) := by
  unfold lastV
  rw [Memref.set_view_squeeze]
  show ((View.whole cc0_scratch0).slice (Rect.unit (s := S32x2x512x256) (k0_off8 c) S1x2x512x256.size (last_inb c))).set = _
  rw [View.set_slice_whole, slotAt_last]
  ext i
  rw [mem_slotSet, Rect.mem_set_unit]
  simp only [k0_off8_eq]
  constructor
  · intro h
    have h0 := h (0 : Fin 4)
    simp only [Matrix.cons_val_zero, S1x2x512x256] at h0
    show (i 0).val = (c.val + 1) % 32
    omega
  · intro h a
    have h' : (i 0).val = (c.val + 1) % 32 := h
    have hi : (i a).val < S32x2x512x256.size a := (i a).isLt
    fin_cases a <;> simp [S1x2x512x256, S32x2x512x256] at hi h' ⊢ <;> omega

/-- The last slot filled, owned as a slot or through its view, is the same resource. -/
theorem last_pts (c : Dev nD) (G : CommC (F := F)) :
    (slotPts c (slotAt c 31) fullShare G : sProp 𝕄) = ((lastV c).view.loc (c : Thread nD τ) ↦[(lastV c).view.set]{fullShare} (G : Buf (Elt F) ((lastV c).view.loc (c : Thread nD τ)))) := by
  rw [lastV_set]; rfl

/-! ## The body -/

set_option maxHeartbeats 1000000 in
/-- The whole body of one device: from its launch resources to every counter at zero, with the output holding the sum over all thirty-two chunks. -/
theorem body_run (G : CommC (F := F)) (κ : GSem nD τ sig → ℕ) (c : Dev nD) (W : Waits sig Unit) (X : Vec F S256x512 .f32) (P : Vec F S2x512x256 .f32) (Kg Vg : Vec F S2x32x128x256 .f32)
    (hG : ∀ i ∈ slotSet c, G i = P (inSlot i)) (f : CommC (F := F)) (f1 : Vec F S256x256 .f32) (A : Vec F S256x512 .f32) (Kt : PUnit → sProp 𝕄) :
    iprop((cellInv ER (ringRd G) (κ (barCell c)) (barCell c) ∗ cellInv ER (ringRd G) (κ (barCell (nxt c))) (barCell (nxt c)) ∗ cellInv ER (ringRd G) (κ (barCell (prv c))) (barCell (prv c))
          ∗ reached ER (barCell (nxt c)) 0 ∗ reached ER (barCell (prv c)) 0)
        ∗ levAts L lv ∗ atPos ER (barCell c) 0 ∅ 0 ∗ dutyTok ER (barCell (nxt c)) 0 false ∗ dutyTok ER (barCell (prv c)) 0 true
        ∗ cred (tallyAt (barCell c) () 2) ∗ owes (c : Thread nD τ) (O₀ c) W
        ∗ (bigSep Finset.univ fun t : Hop => reached ER (recvCell c t) 0)
        ∗ (bigSep Finset.univ fun t : Hop => hopPre G κ c t)
        ∗ pts c cc0_scratch0 f ∗ pts c cc0_scratch1 f1 ∗ pts c cc0_stg0_0 X ∗ pts c cc0_stg1_0 P ∗ pts c cc0_stg2_0 Kg ∗ pts c cc0_stg3_0 Vg ∗ pts c cc0_stg4_0 A
        ∗ ((semVal (barCell c) 0 ∗ (bigSep Finset.univ fun t : Hop => iprop(semVal (sendCell c t) 0 ∗ semVal (recvCell c t) 0))
            ∗ (∃ W', owes (c : Thread nD τ) 0 W') ∗ pts c cc0_scratch0 G ∗ (∃ f', pts c cc0_scratch1 f') ∗ pts c cc0_stg0_0 X ∗ pts c cc0_stg1_0 P
            ∗ pts c cc0_stg2_0 Kg ∗ pts c cc0_stg3_0 Vg ∗ pts c cc0_stg4_0 (accAt maskV X Kg Vg G c 32)) -∗ Kt ⟨⟩))
      ⊢ wp frame (wpE (defs₀ (F := F)) 𝒱₀ c none) Set.univ
        (cc0_body (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) cc0_scratch2 cc0_scratch3) Kt := by
  rw [cc0_body_eq_skeleton]; unfold cc0_body_skel
  iintro ⟨#HI, #Hlev, Hat, Htn, Htp, Hc, HO, Hrv, Hpre, HC, H1, HX, HP, HK, HV, HA, Hk⟩
  ihave HC := (Entails.of_eq ((comm_slots c f).trans (slots_first c fun s => slotPts c s fullShare f))) $$ HC
  icases HC with ⟨Hs, Hss⟩
  ihave Hss := (show iprop((bigSep Finset.univ fun t : Hop => slotPts c (slotAt c (t.val + 1)) fullShare f) ∗ (bigSep Finset.univ fun t : Hop => reached ER (recvCell c t) 0))
      ⊢ (bigSep Finset.univ fun t : Hop => iprop((∃ f, slotPts c (slotAt c (t.val + 1)) fullShare f) ∗ reached ER (recvCell c t) 0) : sProp 𝕄) from
      (Entails.of_eq (bigSep_sep _ _ _).symm).trans (bigSep_mono fun t _ => by
        show iprop(slotPts c (slotAt c (t.val + 1)) fullShare f ∗ reached ER (recvCell c t) 0) ⊢ _
        iintro ⟨Ha, Hb⟩
        isplitl [Ha]; · iexists f; iexact Ha
        iexact Hb)) $$ [Hss Hrv]
  · isplitl [Hss]; · iexact Hss
    iexact Hrv
  rw [wp_bind]
  iapply (start_run G κ c W P hG f)
  isplitr; · iexact HI
  isplitr; · iexact Hlev
  isplitl [Hat]; · iexact Hat
  isplitl [Htn]; · iexact Htn
  isplitl [Htp]; · iexact Htp
  isplitl [Hc]; · iexact Hc
  isplitl [HO]; · iexact HO
  isplitl [Hss]; · iexact Hss
  isplitl [Hs]; · iexact Hs
  isplitl [HP]; · iexact HP
  iintro %v2 %v7 ⟨HO, Hat, Hbp, Hs, HP⟩
  sl_exec
  have hm : k0_pay29 body_run.sl.v72 body_run.sl.v75 body_run.sl.v38 = maskV := rfl
  unfold body_run.sl.HA_1
  rw [writes_acc]
  ihave Hall := (todo_all G κ c) $$ [Hpre Hbp]
  · isplitl [Hpre]; · iexact Hpre
    iexact Hbp
  rw [wp_bind]
  iapply (loop_run G κ c v2 v7 body_run.sl.v72 body_run.sl.v75 body_run.sl.v38 X Kg Vg)
  rw [hm]
  isplitl [Hs Hall HX HK HV HA H1 HO]
  · unfold loopI
    rw [slotAt_zero, todoFrom_zero, doneTo_zero]
    isplitl [Hs]; · iexact Hs
    isplitl [Hall]; · iexact Hall
    isplitr; · iempintro
    isplitl [HX]; · iexact HX
    isplitl [HK]; · iexact HK
    isplitl [HV]; · iexact HV
    isplitl [HA]; · iexact HA
    isplitl [H1]; · iexists f1; iexact H1
    isplitl [HO]; · iexists _; iexact HO
    iexact Hlev
  unfold loopI
  iintro ⟨HS, -, HD, HX, HK, HV, HA, ⟨%f2, H1⟩, ⟨%W2, HO⟩, -⟩
  ihave HS := (Entails.of_eq (last_pts c G)) $$ HS
  sl_exec
  have hctx : body_run.sl.v275 G c X Kg Vg = ctxAt maskV X Kg Vg G (slotAt c 31) := by
    unfold body_run.sl.v275 body_run.sl.H1_8
    refine (readCov_blocks maskV
      (k0_pay3 (commM.view.readAt (Elt F) (Rect.unit (s := S32x2x512x256) (k0_off8 c) S1x1x512x256.size (k0_off8_inb c)).toLoadRect G)
        ((Memref.whole cc0_stg0_0).view.readAt (Elt F) (Rect.unit (s := S256x512) ![0, 0] S256x512.size inb_S256x512_S256x512_0_0).toLoadRect X))
      (k0_pay4 ((Memref.whole cc0_stg2_0).view.readAt (Elt F) (Rect.unit (s := S2x32x128x256) (k0_off10 c) S1x1x128x256.size (k0_off10_inb c)).toLoadRect Kg))
      (k0_pay5 ((Memref.whole cc0_stg3_0).view.readAt (Elt F) (Rect.unit (s := S2x32x128x256) (k0_off10 c) S1x1x128x256.size (k0_off10_inb c)).toLoadRect Vg))
      (k0_pay4 ((Memref.whole cc0_stg2_0).view.readAt (Elt F) (Rect.unit (s := S2x32x128x256) (k0_off11 c) S1x1x128x256.size (k0_off11_inb c)).toLoadRect Kg))
      (k0_pay5 ((Memref.whole cc0_stg3_0).view.readAt (Elt F) (Rect.unit (s := S2x32x128x256) (k0_off11 c) S1x1x128x256.size (k0_off11_inb c)).toLoadRect Vg))
      _ _ _ _ _ _ _ _ rfl rfl rfl rfl rfl rfl rfl rfl).trans ?_
    rw [read_wq G (slotAt c 31) _ (off8_slot c), read_k Kg 0 (slotAt c 31) _ (off10_slot c), read_k Kg 1 (slotAt c 31) _ (off11_slot c),
      read_v Vg 0 (slotAt c 31) _ (off10_slot c), read_v Vg 1 (slotAt c 31) _ (off11_slot c), read_x]
    exact ctxAt_eq _ _ _ _ _ _
  have hwo : body_run.sl.r G c = k0_pay2 (woB G (slotAt c 31)) := by
    unfold body_run.sl.r
    rw [read_wo G (slotAt c 31) _ (off9_slot c)]; rfl
  rw [writes_acc, read_acc, hctx, hwo]
  ihave HS := (Entails.of_eq (last_pts c G).symm) $$ HS
  rw [wp_ret]
  icases HI with ⟨#HIb, -⟩
  imod (hop_close G (κ (barCell c)) (barCell c)) $$ [Hat] with Hv
  · isplitr; · iexact HIb
    iexact Hat
  ihave Hd := (done_all G c) $$ [HD HS]
  · isplitl [HD]; · iexact HD
    iexact HS
  icases Hd with ⟨Hd, HC⟩
  imodintro
  iapply Hk
  isplitl [Hv]; · iexact Hv
  isplitl [Hd]; · iexact Hd
  isplitl [HO]; · iexists W2; rw [← owedFrom_end c]; iexact HO
  isplitl [HC]; · iexact HC
  isplitl [H1]; · iexists _; iexact H1
  isplitl [HX]; · iexact HX
  isplitl [HP]; · iexact HP
  isplitl [HK]; · iexact HK
  isplitl [HV]; · iexact HV
  iexact HA

end Cert.KernelIdeal.Own

end
-- ==== Proof.KernelIdeal.Region.lean ====
module

public import proofs.«01_k».proof.Proof.KernelIdeal.Body
public import proofs.«01_k».proof.Proof.Gen.KernelIdeal.Regions
public import Idealize.ShloMosaic.Lib.Pipeline.RegionTalk
public import Idealize.ShloMosaic.Lib.Pipeline.Value
public import Idealize.ShloMosaic.Lib.Pipeline.ValueKit.Geometry

@[expose] public section

noncomputable section

namespace Cert.KernelIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.KernelIdeal Cert.KernelIdeal.Gen

variable {F : FTy → Type} [FloatOps F]

local notation "𝕄" => MT nD τ sig Unit (Elt F) ℕ UU ℕ

variable (m : (ℓ : Loc nD τ sig) → Buf (Elt F) ℓ)

/-! ## What the launch memory makes the region's contents -/

/-- The communication buffer after the ring: slot `s` holds the weights device `s` packed. -/
def ringG : CommC (F := F) := fun i => (V1 m (⟨(i 0).val, (i 0).isLt⟩ : Dev nD) main_v27 : Vec F S2x512x256 .f32) (inSlot i)

/-- On slot `c` the ring's contents are device `c`'s packed weights. -/
theorem ringG_slot (c : Dev nD) : ∀ i ∈ slotSet c, ringG m i = (V1 m c main_v27 : Vec F S2x512x256 .f32) (inSlot i) := by
  intro i hi
  have h : (⟨(i 0).val, (i 0).isLt⟩ : Dev nD) = c := Fin.ext ((mem_slotSet c i).mp hi)
  unfold ringG; rw [h]

/-- What the region leaves in device `c`'s output array. -/
def outV (c : Dev nD) : Vec F S256x512 .f32 :=
  accAt maskV (V1 m c main_v23 : Vec F S256x512 .f32) (V1 m c main_v13 : Vec F S2x32x128x256 .f32) (V1 m c main_v22 : Vec F S2x32x128x256 .f32) (ringG m) c 32

/-- The region's results, in the form the valuations after it take. -/
def outs : Outs (F := F) := fun _ => Function.update (fun r c => m ((c : Thread nD τ).loc r)) main_v28 fun c => outV m c

/-- The region leaves `outV` in its output array. -/
theorem outs_v28 (c : Dev nD) : outs m 2 main_v28 c = outV m c := by
  unfold outs; rw [Function.update_self]

/-! ## Ghost state -/

/-- The invariants device `c` uses. -/
def invs (κ : GSem nD τ sig → ℕ) (c : Dev nD) : sProp 𝕄 :=
  iprop((cellInv ER (ringRd (ringG m)) (κ (barCell c)) (barCell c) ∗ cellInv ER (ringRd (ringG m)) (κ (barCell (nxt c))) (barCell (nxt c))
      ∗ cellInv ER (ringRd (ringG m)) (κ (barCell (prv c))) (barCell (prv c)) ∗ reached ER (barCell (nxt c)) 0 ∗ reached ER (barCell (prv c)) 0)
    ∗ bigSep Finset.univ fun t : Hop => iprop(cellInv ER (ringRd (ringG m)) (κ (sendCell c t)) (sendCell c t)
        ∗ cellInv ER (ringRd (ringG m)) (κ (recvCell c t)) (recvCell c t)
        ∗ cellInv ER (ringRd (ringG m)) (κ (recvCell (nxt c) t)) (recvCell (nxt c) t)))

/-- What device `c` alone holds of the protocol before its cells open. -/
def linear (c : Dev nD) : sProp 𝕄 :=
  iprop(atPos ER (barCell c) 0 ∅ 0 ∗ dutyTok ER (barCell (nxt c)) 0 false ∗ dutyTok ER (barCell (prv c)) 0 true
    ∗ (bigSep Finset.univ fun t : Hop => iprop(openTok ER (sendCell c t) ∗ openTok ER (recvCell c t)))
    ∗ bigSep Finset.univ fun t : Hop => iprop(dutyTok ER (sendCell c t) 0 true ∗ dutyTok ER (recvCell (nxt c) t) 0 true))

/-- The credits the launch deals device `c`. -/
def creds (c : Dev nD) : sProp 𝕄 :=
  iprop(cred (tallyAt (barCell c) () 2) ∗ bigSep Finset.univ fun t : Hop => cred (tallyAt (recvCell c t) () N))

/-- What the launch keeps for the region. -/
def Tk (c : Dev nD) : sProp 𝕄 := iprop((∃ κ, invs m κ c ∗ linear c) ∗ creds c)

/-- After the cells open. -/
def Xk (c : Dev nD) : sProp 𝕄 :=
  iprop((∃ κ, (cellInv ER (ringRd (ringG m)) (κ (barCell c)) (barCell c) ∗ cellInv ER (ringRd (ringG m)) (κ (barCell (nxt c))) (barCell (nxt c))
      ∗ cellInv ER (ringRd (ringG m)) (κ (barCell (prv c))) (barCell (prv c)) ∗ reached ER (barCell (nxt c)) 0 ∗ reached ER (barCell (prv c)) 0)
      ∗ atPos ER (barCell c) 0 ∅ 0 ∗ dutyTok ER (barCell (nxt c)) 0 false ∗ dutyTok ER (barCell (prv c)) 0 true
      ∗ (bigSep Finset.univ fun t : Hop => reached ER (recvCell c t) 0) ∗ (bigSep Finset.univ fun t : Hop => hopPre (ringG m) κ c t))
    ∗ cred (tallyAt (barCell c) () 2) ∗ levAts L lv)

/-- The semaphores of the region's own: each hop's two. -/
def osem (k : Bool × Hop) : SemLoc sig := if k.1 then .dma (sendS k.2) else .dma (recvS k.2)

/-- The region's own semaphores are the hops'. -/
theorem osem_facts : Pipeline.OwnSemFacts spec0 osem := by decide +kernel

/-- The region's own counters at zero, hop by hop. -/
theorem ownSems_eq (c : Dev nD) :
    (Pipeline.ownSems0 osem c : sProp 𝕄)
      = bigSep Finset.univ fun t : Hop => iprop(semVal (sendCell c t) 0 ∗ semVal (recvCell c t) 0) := by
  unfold Pipeline.ownSems0
  rw [bigSep_univ_prod, bigSep_bool]; exact (bigSep_sep' _ _ _).symm

/-- A fancy update at each member is one of the whole. -/
theorem fupd_all {I : Type} [DecidableEq I] (s : Finset I) (Φ Ψ : I → sProp 𝕄) (h : ∀ i ∈ s, Φ i ⊢ (|={Set.univ}=> Ψ i : sProp 𝕄)) :
    bigSep s Φ ⊢ (|={Set.univ}=> bigSep s Ψ : sProp 𝕄) := by
  induction s using Finset.induction_on with
  | empty => rw [bigSep_empty]; iintro -; imodintro; iempintro
  | insert a s ha ih =>
    rw [bigSep_insert ha, bigSep_insert ha]
    show iprop(Φ a ∗ bigSep s Φ) ⊢ (|={Set.univ}=> iprop(Ψ a ∗ bigSep s Ψ) : sProp 𝕄)
    iintro ⟨Ha, Hs⟩
    imod (h a (Finset.mem_insert_self a s)) $$ Ha with Ha
    imod (ih fun i hi => h i (Finset.mem_insert_of_mem hi)) $$ Hs with Hs
    imodintro
    isplitl [Ha]; · iexact Ha
    iexact Hs

/-- Two families over one index set, as one family of pairs, and back. -/
theorem zip_all {I : Type} (s : Finset I) (Φ Ψ : I → sProp 𝕄) : iprop(bigSep s Φ ∗ bigSep s Ψ) ⊢ bigSep s fun i => iprop(Φ i ∗ Ψ i) :=
  Entails.of_eq (bigSep_sep' _ _ _).symm
/-- A conjunction of pairs is the pair of conjunctions. -/
theorem unzip_all {I : Type} (s : Finset I) (Φ Ψ : I → sProp 𝕄) : (bigSep s fun i => iprop(Φ i ∗ Ψ i)) ⊢ iprop(bigSep s Φ ∗ bigSep s Ψ) :=
  Entails.of_eq (bigSep_sep' _ _ _)

/-- An entailment at each member is one of the whole. -/
theorem mono_all {I : Type} (s : Finset I) (Φ Ψ : I → sProp 𝕄) (h : ∀ i, Φ i ⊢ Ψ i) : bigSep s Φ ⊢ bigSep s Ψ := bigSep_mono fun i _ => h i

/-- Opening the two cells of one hop. -/
theorem open_hop (κ : GSem nD τ sig → ℕ) (c : Dev nD) (t : Hop) :
    iprop((cellInv ER (ringRd (ringG m)) (κ (sendCell c t)) (sendCell c t) ∗ cellInv ER (ringRd (ringG m)) (κ (recvCell c t)) (recvCell c t)
          ∗ cellInv ER (ringRd (ringG m)) (κ (recvCell (nxt c) t)) (recvCell (nxt c) t))
        ∗ (openTok ER (sendCell c t) ∗ openTok ER (recvCell c t)) ∗ (dutyTok ER (sendCell c t) 0 true ∗ dutyTok ER (recvCell (nxt c) t) 0 true)
        ∗ cred (tallyAt (recvCell c t) () N) ∗ (semVal (sendCell c t) 0 ∗ semVal (recvCell c t) 0))
      ⊢ (|={Set.univ}=> iprop(reached ER (recvCell c t) 0 ∗ hopPre (ringG m) κ c t) : sProp 𝕄) := by
  iintro ⟨⟨#HIs, #HIr, #HIn⟩, ⟨HoS, HoR⟩, ⟨HtS, HtR⟩, Hc, Hs0, Hr0⟩
  imod (Rounds.cell_open ER (ringRd (ringG m)) (g := sendCell c t) (Set.mem_univ (κ (sendCell c t)))) $$ [HoS Hs0] with ⟨HatS, #HrS⟩
  · isplitr; · iexact HIs
    isplitl [HoS] <;> iassumption
  imod (Rounds.cell_open ER (ringRd (ringG m)) (g := recvCell c t) (Set.mem_univ (κ (recvCell c t)))) $$ [HoR Hr0] with ⟨HatR, #HrR⟩
  · isplitr; · iexact HIr
    isplitl [HoR] <;> iassumption
  imodintro
  isplitr; · iexact HrR
  unfold hopPre
  isplitr; · iexact HIs
  isplitr; · iexact HIr
  isplitr; · iexact HIn
  isplitr; · iexact HrS
  isplitl [HatS]; · iexact HatS
  isplitl [HatR]; · iexact HatR
  isplitl [HtS]; · iexact HtS
  isplitl [HtR]; · iexact HtR
  iexact Hc

/-- At the region's start the hops' counters are put into their invariants. -/
theorem hopen (c : Dev nD) : iprop(Tk m c ∗ Pipeline.ownSems0 osem c ∗ levAts L lv) ⊢ (|={Set.univ}=> Xk m c : sProp 𝕄) := by
  rw [ownSems_eq]
  unfold Tk invs linear creds Xk
  iintro ⟨⟨⟨%κ, ⟨HI, HIh⟩, HaB, HtN, HtP, Ho, Ht⟩, HcB, HcR⟩, Hs, #Hlev⟩
  imod (fupd_all (F := F) Finset.univ _ _ fun t _ => open_hop m κ c t) $$ [HIh Ho Ht HcR Hs] with H
  · iapply (zip_all (F := F)); isplitl [HIh]; · iexact HIh
    iapply (zip_all (F := F)); isplitl [Ho]; · iexact Ho
    iapply (zip_all (F := F)); isplitl [Ht]; · iexact Ht
    iapply (zip_all (F := F)); isplitl [HcR]; · iexact HcR
    iexact Hs
  ihave H := (unzip_all (F := F) _ _ _) $$ H; icases H with ⟨HR, HP⟩
  imodintro
  isplitr [HcB]
  · iexists κ
    isplitl [HI]; · iexact HI
    isplitl [HaB]; · iexact HaB
    isplitl [HtN]; · iexact HtN
    isplitl [HtP]; · iexact HtP
    isplitl [HR]; · iexact HR
    iexact HP
  isplitl [HcB]; · iexact HcB
  iexact Hlev

/-! ## The region's data -/

/-- The region's two scratch buffers, at any contents. -/
def scr (c : Dev nD) : sProp 𝕄 := iprop((∃ f, pts c cc0_scratch0 f) ∗ (∃ f, pts c cc0_scratch1 f))

/-- The region's data: its arrays before and after, what it holds at each end, and what it owes. -/
def dat0 (c : Dev nD) : Dat τ (Elt F) Unit ℕ UU ℕ cfg0 c where
  A w := V1 m c (Proc.devRef .tc (Pipeline.arrRef spec0 w))
  after w _ := match w with
    | ⟨0, _⟩ => (V1 m c main_v23 : Vec F S256x512 .f32)
    | ⟨1, _⟩ => (V1 m c main_v27 : Vec F S2x512x256 .f32)
    | ⟨2, _⟩ => (V1 m c main_v13 : Vec F S2x32x128x256 .f32)
    | ⟨3, _⟩ => (V1 m c main_v22 : Vec F S2x32x128x256 .f32)
    | ⟨4, _⟩ => outV m c
  Φ t := if t.val = 0 then iprop(Xk m c ∗ scr c ∗ ∃ r, prngReg c r)
    else iprop(semVal (barCell c) 0 ∗ Pipeline.ownSems0 osem c ∗ scr c ∗ ∃ r, prngReg c r)
  q _ := fullShare
  owed t := if t.val = 0 then O₀ c else 0

/-- The same, for the program's one region. -/
def pdats : (p : Fin 1) → (c : Dev nD) → Dat τ (Elt F) Unit ℕ UU ℕ (Pipeline.pin (pcfgs (F := F)) adm p) c
  | 0 => dat0 m

/-- The buffers the region allocates besides its windows are the two scratch buffers. -/
theorem scopedRest_eq (c : Dev nD) : (Pipeline.scopedRest (Ix := Unit) (Name := ℕ) (U := UU) (Lvl := ℕ) (Val := Elt F) spec0 c : sProp 𝕄) = scr c :=
  scopedRest0_eq c

/-- The body starts owing what the launch owes; -/
theorem owed_first (c : Dev nD) : (dat0 m c).owed t0_0.castSucc = O₀ c := by
  show (if (t0_0.castSucc : Fin (cfg0.N + 1)).val = 0 then O₀ c else 0) = O₀ c; exact if_pos rfl
/-- so does the region; -/
theorem owed_zero (c : Dev nD) : (pdats m 0 c).owed 0 = O₀ c := by
  show (if ((0 : Fin (cfg0.N + 1)).val = 0) then O₀ c else 0) = O₀ c; exact if_pos rfl
/-- and it ends owing nothing. -/
theorem owed_last (c : Dev nD) : (pdats m 0 c).owed (Fin.last _) = 0 := by
  show (if (Fin.last cfg0.N).val = 0 then O₀ c else 0) = 0
  rw [Fin.val_last, if_neg (by rw [show cfg0.N = 1 from N_0]; decide)]

/-- Fetched at the one point, each input's staging buffer holds the whole array. -/
theorem before_0 (c : Dev nD) (d) : (dat0 m c).before 0 t0_0 d = (V1 m c main_v23 : Vec F S256x512 .f32) := by
  unfold Dat.before; rw [if_pos (by decide)]
  funext i
  show (V1 m c main_v23 : Vec F S256x512 .f32) _ = _
  congr 1
  funext a; apply Fin.ext
  fin_cases a <;> exact Nat.zero_add _ |>.trans (Nat.one_mul _)

/-- The same for the packed weights; -/
theorem before_1 (c : Dev nD) (d) : (dat0 m c).before 1 t0_0 d = (V1 m c main_v27 : Vec F S2x512x256 .f32) := by
  unfold Dat.before; rw [if_pos (by decide)]
  funext i
  show (V1 m c main_v27 : Vec F S2x512x256 .f32) _ = _
  congr 1
  funext a; apply Fin.ext
  fin_cases a <;> exact Nat.zero_add _ |>.trans (Nat.one_mul _)

/-- for the keys; -/
theorem before_2 (c : Dev nD) (d) : (dat0 m c).before 2 t0_0 d = (V1 m c main_v13 : Vec F S2x32x128x256 .f32) := by
  unfold Dat.before; rw [if_pos (by decide)]
  funext i
  show (V1 m c main_v13 : Vec F S2x32x128x256 .f32) _ = _
  congr 1
  funext a; apply Fin.ext
  fin_cases a <;> exact Nat.zero_add _ |>.trans (Nat.one_mul _)

/-- and for the values. -/
theorem before_3 (c : Dev nD) (d) : (dat0 m c).before 3 t0_0 d = (V1 m c main_v22 : Vec F S2x32x128x256 .f32) := by
  unfold Dat.before; rw [if_pos (by decide)]
  funext i
  show (V1 m c main_v22 : Vec F S2x32x128x256 .f32) _ = _
  congr 1
  funext a; apply Fin.ext
  fin_cases a <;> exact Nat.zero_add _ |>.trans (Nat.one_mul _)

/-- What a device owes, in the region's form; -/
theorem owesAt_intro (c : Dev nD) (t : Fin (cfg0.N + 1)) (O : CellTallies nD τ sig Unit) (h : (dat0 m c).owed t = O) (W : Waits sig Unit) :
    (owes (c : Thread nD τ) O W : sProp 𝕄) ⊢ (dat0 m c).owesAt () t := by
  unfold Dat.owesAt Pipeline.owesWithin; rw [h]
  iintro HO; iexists W; isplitr; · ipureintro; exact fun _ _ => Or.inl trivial
  iexact HO

/-- and back. -/
theorem owesAt_elim (c : Dev nD) (t : Fin (cfg0.N + 1)) (O : CellTallies nD τ sig Unit) (h : (dat0 m c).owed t = O) :
    ((dat0 m c).owesAt () t : sProp 𝕄) ⊢ iprop(∃ W, owes (c : Thread nD τ) O W) := by
  unfold Dat.owesAt Pipeline.owesWithin; rw [h]
  iintro ⟨%W, -, HO⟩; iexists W; iexact HO

/-- One device's point: from the opened protocol and the staged inputs, the output staged as `outV` says. -/
theorem body (c : Dev nD) : BodyObligation (dat0 m c) (defs₀ (F := F)) 𝒱₀ () Set.univ := fun t => by
  obtain rfl := fin_N0 t
  rw [bigSep_W0, bigSep_W0]
  rw [show (dat0 m c).Φ t0_0.castSucc = iprop(Xk m c ∗ scr c ∗ ∃ r, prngReg c r) from rfl,
    show (dat0 m c).Φ t0_0.succ = iprop(semVal (barCell c) 0 ∗ Pipeline.ownSems0 osem c ∗ scr c ∗ ∃ r, prngReg c r) from rfl, ownSems_eq]
  unfold Xk scr
  iintro ⟨⟨⟨⟨%κ, HI, HaB, HtN, HtP, HR, HP⟩, HcB, #Hlev⟩, ⟨⟨%f, Hf⟩, ⟨%f1, Hf1⟩⟩, Hreg⟩, HO, ⟨%d0, H0⟩, ⟨%d1, H1⟩, ⟨%d2, H2⟩, ⟨%d3, H3⟩, ⟨%d4, H4⟩⟩
  ihave HO' := (owesAt_elim m c _ (O₀ c) (owed_first m c)) $$ HO
  icases HO' with ⟨%W, HO⟩
  rw [before_0, before_1, before_2, before_3]
  iapply (body_run (ringG m) κ c W (V1 m c main_v23 : Vec F S256x512 .f32) (V1 m c main_v27 : Vec F S2x512x256 .f32)
    (V1 m c main_v13 : Vec F S2x32x128x256 .f32) (V1 m c main_v22 : Vec F S2x32x128x256 .f32) (ringG_slot m c) f f1 ((dat0 m c).before 4 t0_0 d4) _)
  isplitl [HI]; · iexact HI
  isplitr; · iexact Hlev
  isplitl [HaB]; · iexact HaB
  isplitl [HtN]; · iexact HtN
  isplitl [HtP]; · iexact HtP
  isplitl [HcB]; · iexact HcB
  isplitl [HO]; · iexact HO
  isplitl [HR]; · iexact HR
  isplitl [HP]; · iexact HP
  isplitl [Hf]; · iexact Hf
  isplitl [Hf1]; · iexact Hf1
  isplitl [H0]; · iapply (Entails.of_eq (owns_whole c cc0_stg0_0 fullShare _)) $$ H0
  isplitl [H1]; · iapply (Entails.of_eq (owns_whole c cc0_stg1_0 fullShare _)) $$ H1
  isplitl [H2]; · iapply (Entails.of_eq (owns_whole c cc0_stg2_0 fullShare _)) $$ H2
  isplitl [H3]; · iapply (Entails.of_eq (owns_whole c cc0_stg3_0 fullShare _)) $$ H3
  isplitl [H4]; · iapply (Entails.of_eq (owns_whole c cc0_stg4_0 fullShare _)) $$ H4
  iintro ⟨Hb, Hs, ⟨%W', HO⟩, Hf, Hf1, H0, H1, H2, H3, H4⟩
  isplitl [Hb Hs Hf Hf1 Hreg]
  · isplitl [Hb]; · iexact Hb
    isplitl [Hs]; · iexact Hs
    isplitl [Hf Hf1]
    · isplitl [Hf]; · iexists _; iexact Hf
      iexact Hf1
    iexact Hreg
  isplitl [HO]; · iapply (owesAt_intro m c t0_0.succ 0 (owed_last m c) W'); iexact HO
  isplitl [H0]; · iapply (Entails.of_eq (owns_whole c cc0_stg0_0 fullShare _).symm) $$ H0
  isplitl [H1]; · iapply (Entails.of_eq (owns_whole c cc0_stg1_0 fullShare _).symm) $$ H1
  isplitl [H2]; · iapply (Entails.of_eq (owns_whole c cc0_stg2_0 fullShare _).symm) $$ H2
  isplitl [H3]; · iapply (Entails.of_eq (owns_whole c cc0_stg3_0 fullShare _).symm) $$ H3
  iapply (Entails.of_eq (owns_whole c cc0_stg4_0 fullShare _).symm) $$ H4

/-! ## The region as a segment -/

/-- Whatever the region owes is owed to a labelled cell of positive level. -/
theorem cut (c : Dev nD) (t : Fin ((Pipeline.pin (pcfgs (F := F)) adm 0).N + 1)) (g : GSem nD τ sig) (i : Unit) (h : 0 < (pdats m 0 c).owed t g i) :
    i ∈ L g ∧ (0 : ℕ) < lv g i := by
  have e : (pdats m 0 c).owed t = if t.val = 0 then O₀ c else 0 := rfl
  rw [e] at h
  split at h
  · rcases pos_O₀ h with ⟨t, rfl⟩ | rfl | rfl
    · exact ⟨by rw [L_tc]; exact Finset.mem_singleton_self _, by rw [lv_recv]; omega⟩
    · exact ⟨by rw [L_tc]; exact Finset.mem_singleton_self _, by rw [lv_bar]; decide⟩
    · exact ⟨by rw [L_tc]; exact Finset.mem_singleton_self _, by rw [lv_bar]; decide⟩
  · exact absurd h (Nat.lt_irrefl 0)

/-- Holding no buffer is holding nothing. -/
theorem held_empty (c : Dev nD) (W : Valuation τ sig (Elt F)) : (StableHlo.held (c.tc : Thread nD τ) ∅ W : sProp 𝕄) = BI.emp := by
  unfold StableHlo.held; exact BI.bigSep_empty

/-- What the region is given at its start is what its body starts from. -/
theorem hin (c : Dev nD) : iprop(Pipeline.scopedRest (Pipeline.pin (pcfgs (F := F)) adm 0).spec c ∗ (∃ r, prngReg c r)
      ∗ StableHlo.held (c.tc : Thread nD τ) ∅ (V1 m c) ∗ Xk m c) ⊢ (pdats m 0 c).Φ 0 := by
  rw [show (pdats m 0 c).Φ 0 = iprop(Xk m c ∗ scr c ∗ ∃ r, prngReg c r) from rfl,
    show Pipeline.scopedRest (Pipeline.pin (pcfgs (F := F)) adm 0).spec c = (scr c : sProp 𝕄) from scopedRest_eq c, held_empty]
  iintro ⟨Hs, Hp, -, HX⟩
  isplitl [HX]; · iexact HX
  isplitl [Hs]; · iexact Hs
  iexact Hp

/-- What its body ends with is what the region gives back. -/
theorem hout (c : Dev nD) : (pdats m 0 c).Φ (Fin.last (Pipeline.pin (pcfgs (F := F)) adm 0).N)
    ⊢ iprop(Pipeline.scopedRest (Pipeline.pin (pcfgs (F := F)) adm 0).spec c ∗ (∃ r, prngReg c r)
      ∗ StableHlo.held (c.tc : Thread nD τ) ∅ (V2 m (outs m) c) ∗ Pipeline.ownSems0 osem c ∗ semVal (barCell c) 0) := by
  rw [show (pdats m 0 c).Φ (Fin.last _) = iprop(semVal (barCell c) 0 ∗ Pipeline.ownSems0 osem c ∗ scr c ∗ ∃ r, prngReg c r) from rfl,
    show Pipeline.scopedRest (Pipeline.pin (pcfgs (F := F)) adm 0).spec c = (scr c : sProp 𝕄) from scopedRest_eq c, held_empty]
  iintro ⟨Hb, Ho, Hs, Hp⟩
  isplitl [Hs]; · iexact Hs
  isplitl [Hp]; · iexact Hp
  isplitr; · iempintro
  isplitl [Ho]; · iexact Ho
  iexact Hb

/-- The unscoped buffers that are no window's array. -/
abbrev restRefs : Finset (DevRef τ sig) := Pipeline.ucRefs τ sig \ Pipeline.arrRefs (τ := τ) spec0

/-- After the region its output array holds `outV`. -/
theorem arr_out (c : Dev nD) : (dat0 m c).arrAt 4 1 = outV m c := by
  exact (dat0 m c).arrAt_eq_of_after_last 4 t0_0 (by decide +kernel) (outV m c) fun i => rfl

/-- After the region every window's array holds what the valuation after it says. -/
theorem hW' (c : Dev nD) (w : Fin 5) : (dat0 m c).arrAt w 1 = V2 m (outs m) c (Proc.devRef .tc (Pipeline.arrRef spec0 w)) := by
  fin_cases w
  · exact ((dat0 m c).arrAt_in 0 rfl _).trans (V2_of m (outs m) c main_v23 (by decide)).symm
  · exact ((dat0 m c).arrAt_in 1 rfl _).trans (V2_of m (outs m) c main_v27 (by decide)).symm
  · exact ((dat0 m c).arrAt_in 2 rfl _).trans (V2_of m (outs m) c main_v13 (by decide)).symm
  · exact ((dat0 m c).arrAt_in 3 rfl _).trans (V2_of m (outs m) c main_v22 (by decide)).symm
  · refine (arr_out m c).trans ?_
    show _ = V2 m (outs m) c main_v28
    rw [V2, Function.update_self, outs_v28]

local notation "ℝ𝕊" => Pipeline.RegionSeg (pcfgs (F := F)) adm (pdats m) () defs₀ 𝒱₀ L lv

set_option backward.isDefEq.respectTransparency.types false in
/-- The region, with what it starts from and what it ends with. -/
def reg : ℝ𝕊 0 :=
  Pipeline.RegionSeg.ofTalk (pcfgs (F := F)) adm (pdats m) () defs₀ 𝒱₀ L lv 0 osem osem_facts
    ∅ restRefs (Finset.empty_subset _) launch0.toP rfl (fun c => (body m c).loose)
    (fun _ => 0) O₀ (fun c => (owed_zero m c).trans (zero_add _).symm) (owed_last m) (fun _ => rfl) (fun c w => (pdats m 0 c).share_full (fun _ => rfl) w)
    (V1 m) (V2 m (outs m)) (fun c b hb => by
      rw [Finset.sdiff_empty] at hb
      refine Function.update_of_ne (fun h => ?_) _ _
      subst h
      exact (Finset.mem_sdiff.mp hb).2 (by decide))
    (Tk m) (fun c => semVal (barCell c) 0) (Xk m) (fun c => semVal (barCell c) 0) (hopen m) (hin m) (hout m)
    (fun c => by iintro H; imodintro; iexact H)
    (fun _ => 0)
    ⟨fun c w s => by rw [L_tc]; exact Finset.mem_singleton_self _, fun c w s => by fin_cases w <;> fin_cases s <;> exact Nat.le_refl 0, fun c t g i h => cut m c t g i h⟩
    (fun _ => iprop(emp))
    (fun _ _ => rfl) (fun c w => hW' m c w)

end Cert.KernelIdeal.Own
-- ==== Proof.KernelIdeal.Launch.lean ====
module

public import proofs.«01_k».proof.Proof.KernelIdeal.Region
public import Idealize.ShloMosaic.Lib.Quiescent

@[expose] public section

noncomputable section

namespace Cert.KernelIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation Seg)
open Cert.KernelIdeal Cert.KernelIdeal.Gen

variable {F : FTy → Type} [FloatOps F]

local notation "𝕄" => MT nD τ sig Unit (Elt F) ℕ UU ℕ

/-! ## The cells and the tokens of the launch -/

/-- The hops' semaphores are pairwise different; -/
theorem osem_inj : Function.Injective osem := by decide +kernel
/-- and none is the barrier's. -/
theorem osem_ne_bar : ∀ k : Bool × Hop, osem k ≠ .reg barS := by decide +kernel
/-- A barrier cell determines its device; -/
theorem bar_ext {c d : Dev nD} (h : barCell c = barCell d) : c = d := congrArg (fun g : GSem nD τ sig => g.1.1) h
/-- a receive cell determines its device and its hop; -/
theorem recv_ext {c d : Dev nD} {t u : Hop} (h : recvCell c t = recvCell d u) : c = d ∧ t = u :=
  ⟨congrArg (fun g : GSem nD τ sig => g.1.1) h, congrArg Prod.snd (osem_inj (a₁ := (false, t)) (a₂ := (false, u)) (congrArg Prod.snd h))⟩
/-- and a receive cell is no barrier cell. -/
theorem recv_ne_bar {c d : Dev nD} {t : Hop} : recvCell c t ≠ barCell d := fun h => osem_ne_bar (false, t) (congrArg Prod.snd h)

/-- The barrier cells, by device. -/
def barEmb : Dev nD ↪ GSem nD τ sig := ⟨fun c => barCell c, fun _ _ h => bar_ext h⟩
/-- The hops' cells, by device, kind and hop. -/
def hopEmb : Dev nD × (Bool × Hop) ↪ GSem nD τ sig :=
  ⟨fun ck => ((ck.1 : Thread nD τ), osem ck.2), fun _ _ h =>
    Prod.ext (congrArg (fun g : GSem nD τ sig => g.1.1) h) (osem_inj (congrArg Prod.snd h))⟩

/-- All barrier cells. -/
abbrev barCells : Finset (GSem nD τ sig) := Finset.univ.map barEmb
/-- All cells of all hops. -/
abbrev hopCells : Finset (GSem nD τ sig) := Finset.univ.map hopEmb

/-- Every duty: two on each barrier cell, one on each hop's cell. -/
def tokAt (x : Dev nD × (Bool ⊕ (Bool × Hop))) : GSem nD τ sig × ℕ × Bool :=
  match x.2 with
  | .inl b => (barCell x.1, 0, b)
  | .inr k => (((x.1 : Thread nD τ), osem k), 0, true)

/-- Different indices name different duties. -/
theorem tokAt_inj : Function.Injective tokAt := by
  rintro ⟨c, b | k⟩ ⟨d, b' | k'⟩ h
  · have hc : c = d := congrArg (fun x : GSem nD τ sig × ℕ × Bool => x.1.1.1) h
    have hb : b = b' := congrArg (fun x : GSem nD τ sig × ℕ × Bool => x.2.2) h
    subst hc; subst hb; rfl
  · exact absurd (congrArg (fun x : GSem nD τ sig × ℕ × Bool => x.1.2) h).symm (osem_ne_bar k')
  · exact absurd (congrArg (fun x : GSem nD τ sig × ℕ × Bool => x.1.2) h) (osem_ne_bar k)
  · have hc : c = d := congrArg (fun x : GSem nD τ sig × ℕ × Bool => x.1.1.1) h
    have hk : k = k' := osem_inj (congrArg (fun x : GSem nD τ sig × ℕ × Bool => x.1.2) h)
    subst hc; subst hk; rfl

/-- All duties of the ring. -/
def ringToks : Finset (GSem nD τ sig × ℕ × Bool) := Finset.univ.map ⟨tokAt, tokAt_inj⟩

/-- No barrier cell is a hop's cell. -/
theorem disjoint_cells : Disjoint (barCells : Finset (GSem nD τ sig)) hopCells := by
  rw [Finset.disjoint_left]
  rintro g h₁ h₂
  obtain ⟨c, -, rfl⟩ := Finset.mem_map.mp h₁
  obtain ⟨ck, -, h⟩ := Finset.mem_map.mp h₂
  exact osem_ne_bar ck.2 (congrArg Prod.snd h)

/-- A barrier cell is among the ring's cells; -/
theorem bar_mem (c : Dev nD) : barCell c ∈ (barCells ∪ hopCells : Finset (GSem nD τ sig)) :=
  Finset.mem_union_left _ (Finset.mem_map_of_mem barEmb (Finset.mem_univ c))
/-- so is a send cell; -/
theorem send_mem (c : Dev nD) (t : Hop) : sendCell c t ∈ (barCells ∪ hopCells : Finset (GSem nD τ sig)) :=
  Finset.mem_union_right _ (Finset.mem_map_of_mem hopEmb (Finset.mem_univ (c, (true, t))))
/-- and a receive cell. -/
theorem recv_mem (c : Dev nD) (t : Hop) : recvCell c t ∈ (barCells ∪ hopCells : Finset (GSem nD τ sig)) :=
  Finset.mem_union_right _ (Finset.mem_map_of_mem hopEmb (Finset.mem_univ (c, (false, t))))

/-- The launch's element: the pipeline's at its staging cells, the ring's at its own. -/
def u₀ : UU :=
  (initOf (Pipeline.cells (Pipeline.pin (pcfgs (F := F)) adm) cellOf_inj) (Pipeline.launchToks (Pipeline.pin (pcfgs (F := F)) adm) cellOf_inj),
    launchOf barCells hopCells ringToks)

/-- A resource kept on device 0 until the launch deals it. -/
def atZero (X : sProp 𝕄) (c : Dev nD) : sProp 𝕄 := if c = 0 then X else iprop(emp)
/-- Over all devices, what device 0 keeps is the resource itself. -/
theorem all_atZero (X : sProp 𝕄) : bigSep Finset.univ (atZero X) = X := by
  rw [bigSep_univ_at _ (0 : Dev nD), bigSep_congr (s := Finset.univ.erase (0 : Dev nD)) (Ψ := fun _ => (BI.emp : sProp 𝕄))
      fun c hc => by unfold atZero; rw [if_neg (Finset.ne_of_mem_erase hc)]; rfl, BI.bigSep_emp_const]
  unfold atZero; rw [if_pos rfl]
  exact BI.equiv_iff.mp sep_emp

/-- The ring's ghost state at launch, kept on device 0. -/
def ghost0 : Dev nD → sProp 𝕄 := atZero (BI.own (ER (launchOf barCells hopCells ringToks)))

variable (m : (ℓ : Loc nD τ sig) → Buf (Elt F) ℓ) (ρ : Dev nD → PrngReg)

/-- What every device may consult: all the invariants, and that every barrier cell's round began. -/
def records (κ : GSem nD τ sig → ℕ) : sProp 𝕄 :=
  iprop((bigSep (barCells ∪ hopCells) fun g => cellInv ER (ringRd (ringG m)) (κ g) g) ∗ bigSep barCells fun g => reached ER g 0)

/-- The records may be kept and copied. -/
instance records_persistent (κ : GSem nD τ sig → ℕ) : BI.Persistent (records m κ) := by unfold records; infer_instance

/-- From all the invariants, the one of any cell. -/
theorem inv_at (κ : GSem nD τ sig → ℕ) {g : GSem nD τ sig} (hg : g ∈ (barCells ∪ hopCells : Finset (GSem nD τ sig))) :
    (bigSep (barCells ∪ hopCells) fun g => (cellInv ER (ringRd (ringG m)) (κ g) g : sProp 𝕄)) ⊢ cellInv ER (ringRd (ringG m)) (κ g) g :=
  bigSep_elim hg

/-- From all barrier cells' records, the one of any device. -/
theorem reached_at (c : Dev nD) : (bigSep barCells fun g => (reached ER g 0 : sProp 𝕄)) ⊢ reached ER (barCell c) 0 :=
  bigSep_elim (Finset.mem_map_of_mem barEmb (Finset.mem_univ c))

/-- From all the invariants, the three that a hop uses. -/
theorem hop_invs (κ : GSem nD τ sig → ℕ) (c : Dev nD) (t : Hop) :
    (bigSep (barCells ∪ hopCells) fun g => (cellInv ER (ringRd (ringG m)) (κ g) g : sProp 𝕄))
      ⊢ iprop(cellInv ER (ringRd (ringG m)) (κ (sendCell c t)) (sendCell c t) ∗ cellInv ER (ringRd (ringG m)) (κ (recvCell c t)) (recvCell c t)
        ∗ cellInv ER (ringRd (ringG m)) (κ (recvCell (nxt c) t)) (recvCell (nxt c) t)) := by
  iintro #HI
  isplitr; · iapply (inv_at m κ (send_mem c t)); iexact HI
  isplitr; · iapply (inv_at m κ (recv_mem c t)); iexact HI
  iapply (inv_at m κ (recv_mem (nxt c) t)); iexact HI

/-- From the records, the invariants one device uses. -/
theorem invs_intro (κ : GSem nD τ sig → ℕ) (c : Dev nD) : records m κ ⊢ invs m κ c := by
  unfold records invs
  iintro ⟨#HI, #HR⟩
  isplitr
  · isplitr; · iapply (inv_at m κ (bar_mem c)); iexact HI
    isplitr; · iapply (inv_at m κ (bar_mem (nxt c))); iexact HI
    isplitr; · iapply (inv_at m κ (bar_mem (prv c))); iexact HI
    isplitr; · iapply (reached_at (F := F) (nxt c)); iexact HR
    iapply (reached_at (F := F) (prv c)); iexact HR
  iapply (bigSep_with_persistent (S := (Finset.univ : Finset Hop))
    (R := bigSep (barCells ∪ hopCells) fun g => (cellInv ER (ringRd (ringG m)) (κ g) g : sProp 𝕄)) (Φ := fun _ => (BI.emp : sProp 𝕄))
    fun t _ => (show iprop(_ ∗ emp) ⊢ _ from by iintro ⟨H, -⟩; iexact H).trans (hop_invs m κ c t))
  isplitr; · iexact HI
  rw [BI.bigSep_emp_const]; iempintro

/-! ## The tokens dealt around the ring -/

/-- All duty tokens, dealt to the device whose cell each is on. -/
theorem toks_eq : bigSep ringToks (fun x => (dutyTok ER x.1 x.2.1 x.2.2 : sProp 𝕄))
    = bigSep Finset.univ fun c : Dev nD => iprop((dutyTok ER (barCell c) 0 true ∗ dutyTok ER (barCell c) 0 false)
        ∗ ((bigSep Finset.univ fun t : Hop => dutyTok ER (sendCell c t) 0 true) ∗ (bigSep Finset.univ fun t : Hop => dutyTok ER (recvCell c t) 0 true))) := by
  unfold ringToks; rw [bigSep_map, bigSep_univ_prod]
  refine bigSep_congr fun c _ => ?_
  rw [bigSep_univ_sum, bigSep_bool, bigSep_univ_prod, bigSep_bool]; rfl

/-- All duty tokens, dealt to the device that performs each duty. -/
theorem toks_around :
    bigSep ringToks (fun x => (dutyTok ER x.1 x.2.1 x.2.2 : sProp 𝕄))
      ⊢ bigSep Finset.univ fun c : Dev nD => iprop(dutyTok ER (barCell (nxt c)) 0 false ∗ dutyTok ER (barCell (prv c)) 0 true
        ∗ bigSep Finset.univ fun t : Hop => iprop(dutyTok ER (sendCell c t) 0 true ∗ dutyTok ER (recvCell (nxt c) t) 0 true)) := by
  rw [toks_eq]
  iintro H
  ihave H := (unzip_all (F := F) _ _ _) $$ H; icases H with ⟨HB, HH⟩
  ihave HB := (unzip_all (F := F) _ _ _) $$ HB; icases HB with ⟨HT, HF⟩
  ihave HH := (unzip_all (F := F) _ _ _) $$ HH; icases HH with ⟨HS, HR⟩
  iapply (zip_all (F := F)); isplitl [HF]
  · iapply (Entails.of_eq (bigSep_univ_equiv ring (fun c : Dev nD => (dutyTok ER (barCell c) 0 false : sProp 𝕄)))) $$ HF
  iapply (zip_all (F := F)); isplitl [HT]
  · iapply (Entails.of_eq (bigSep_univ_equiv ring.symm (fun c : Dev nD => (dutyTok ER (barCell c) 0 true : sProp 𝕄)))) $$ HT
  ihave HR := (show (bigSep Finset.univ fun c : Dev nD => bigSep Finset.univ fun t : Hop => (dutyTok ER (recvCell c t) 0 true : sProp 𝕄))
      ⊢ bigSep Finset.univ fun c : Dev nD => bigSep Finset.univ fun t : Hop => dutyTok ER (recvCell (nxt c) t) 0 true from
    Entails.of_eq (bigSep_univ_equiv ring (fun c : Dev nD => bigSep Finset.univ fun t : Hop => (dutyTok ER (recvCell c t) 0 true : sProp 𝕄)))) $$ HR
  ihave H := (zip_all (F := F) _ _ _) $$ [HS HR]
  · isplitl [HS] <;> iassumption
  iapply (mono_all (F := F) (Finset.univ : Finset (Dev nD)) _ _ fun c => zip_all (F := F) (Finset.univ : Finset Hop) (fun t => dutyTok ER (sendCell c t) 0 true) (fun t => dutyTok ER (recvCell (nxt c) t) 0 true)) $$ H

/-! ## The launch's credits -/

/-- What device `d` owes device `c`'s barrier cell: one unit if `c` is its right neighbour and one if its left. -/
theorem owed_bar (d c : Dev nD) : O₀ d (barCell c) () = (if d = prv c then 1 else 0) + if d = nxt c then 1 else 0 := by
  unfold O₀
  rw [Pi.add_apply, Finsupp.add_apply, Pi.add_apply, Finsupp.add_apply, owedFrom_apply,
    Finset.sum_eq_zero (fun t _ => by rw [tallyAt_ne_cell (fun h => recv_ne_bar h.symm)]; rfl), Nat.zero_add, tallyAt_apply, tallyAt_apply]
  congr 1
  · refine if_congr ⟨fun h => ?_, fun h => ?_⟩ rfl rfl
    · rw [bar_ext h.1, prv_nxt]
    · exact ⟨by rw [h, nxt_prv], rfl⟩
  · refine if_congr ⟨fun h => ?_, fun h => ?_⟩ rfl rfl
    · rw [bar_ext h.1, nxt_prv]
    · exact ⟨by rw [h, prv_nxt], rfl⟩

/-- What device `d` owes a receive cell of device `c`: one transfer if `c` is its right neighbour. -/
theorem owed_recv (d c : Dev nD) (t : Hop) : O₀ d (recvCell c t) () = if d = prv c then N else 0 := by
  unfold O₀
  rw [Pi.add_apply, Finsupp.add_apply, Pi.add_apply, Finsupp.add_apply, owedFrom_apply,
    tallyAt_ne_cell recv_ne_bar, tallyAt_ne_cell recv_ne_bar, Finsupp.zero_apply, Nat.add_zero, Nat.add_zero]
  by_cases h : d = prv c
  · rw [if_pos h, Finset.sum_eq_single t, tallyAt_apply, if_pos ⟨by rw [h, nxt_prv], rfl⟩]
    · intro u _ hu; rw [tallyAt_ne_cell (fun e => hu (recv_ext e).2.symm)]; rfl
    · intro hn; exact absurd (Finset.mem_filter.mpr ⟨Finset.mem_univ t, Nat.zero_le t.val⟩) hn
  · rw [if_neg h]
    exact Finset.sum_eq_zero fun u _ => by
      rw [tallyAt_ne_cell (fun e => h (by rw [(recv_ext e).1, prv_nxt]))]; rfl

/-- The launch credits each barrier cell with two units; -/
theorem launch_bar (c : Dev nD) :
    tallyOn (barCell c) (launchCredit (Pipeline.owing O₀) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_ite_eq' Finset.univ (prv c) fun _ => 1, Finset.sum_ite_eq' Finset.univ (nxt c) fun _ => 1,
    if_pos (Finset.mem_univ _), if_pos (Finset.mem_univ _)]

/-- and each receive cell with one transfer. -/
theorem launch_recv (c : Dev nD) (t : Hop) :
    tallyOn (recvCell c t) (launchCredit (Pipeline.owing O₀) 0 (recvCell c t)) = (tallyAt (recvCell c t) () N : CellTallies nD τ sig Unit) := by
  unfold tallyAt; refine congrArg _ (Finsupp.ext fun u => ?_); cases u
  rw [Pipeline.launchCredit_owing, Finsupp.single_eq_same, Finset.sum_congr rfl fun d _ => owed_recv d c t, Finset.sum_ite_eq' Finset.univ (prv c) fun _ => N,
    if_pos (Finset.mem_univ _)]

/-- The receive semaphores, by hop. -/
def recvEmb : Hop ↪ SemLoc sig := ⟨fun t => .dma (recvS t), fun _ _ h => congrArg Prod.snd (osem_inj (a₁ := (false, _)) (a₂ := (false, _)) h)⟩

/-- The launch's credits hold those a device waits on. -/
theorem creds_intro (c : Dev nD) : (Pipeline.launchCred O₀ c : sProp 𝕄) ⊢ creds c := by
  unfold Pipeline.launchCred creds
  rw [bigSep_univ_at _ (SemLoc.reg barS), launch_bar]
  refine sep_mono_right ?_
  have hs : Finset.univ.map recvEmb ⊆ Finset.univ.erase (SemLoc.reg barS : SemLoc sig) := fun s hs => by
    obtain ⟨t, -, rfl⟩ := Finset.mem_map.mp hs
    exact Finset.mem_erase.mpr ⟨osem_ne_bar (false, t), Finset.mem_univ _⟩
  refine (bigSep_subset hs).trans ?_
  rw [bigSep_map]
  exact bigSep_mono fun t _ => Entails.of_eq (show cred (tallyOn (recvCell c t) (launchCredit (Pipeline.owing O₀) 0 (recvCell c t))) = (cred (tallyAt (recvCell c t) () N) : sProp 𝕄) by
    rw [launch_recv])

/-! ## The run -/

/-- What rides beside the buffers before the region. -/
def E0 (c : Dev nD) : sProp 𝕄 := iprop((Tk m c ∗ ∃ r, prngReg c r) ∗ ∃ W, owes (c : Thread nD τ) (O₀ c) W)
/-- And after it. -/
def E1 (c : Dev nD) : sProp 𝕄 := iprop(semVal (barCell c) 0 ∗ ∃ W, owes (c : Thread nD τ) (0 : CellTallies nD τ sig Unit) W)

/-- What rides beside the buffers, before the region and after. -/
def EE : Fin 2 → Dev nD → sProp 𝕄 := fun | 0 => E0 m | 1 => E1

/-- The region's arrays are among the program's own buffers. -/
theorem arr_sub : Pipeline.arrRefs (τ := τ) spec0 ⊆ Pipeline.ucRefs τ sig := by decide

/-- What a device holds before the region is what the region starts from. -/
theorem reg_pre (c : Dev nD) : iprop(StableHlo.held (c : Thread nD τ) (Pipeline.ucRefs τ sig) (V1 m c) ∗ EE m 0 c) ⊢ (reg m).pre c := by
  show iprop(_ ∗ E0 m c) ⊢ iprop(StableHlo.held (c.tc : Thread nD τ) (Pipeline.arrRefs (τ := τ) spec0) (V1 m c) ∗ (∃ r, prngReg c r)
    ∗ (StableHlo.held (c.tc : Thread nD τ) restRefs (V1 m c) ∗ emp) ∗ Tk m c ∗ ∃ Wd, owes (c : Thread nD τ) (0 + O₀ c) Wd)
  rw [zero_add, StableHlo.held_sub_split (c.tc : Thread nD τ) arr_sub (V1 m c)]
  unfold E0
  iintro ⟨⟨Ha, Hr⟩, ⟨HT, Hp⟩, HO⟩
  isplitl [Ha]; · iexact Ha
  isplitl [Hp]; · iexact Hp
  isplitl [Hr]
  · isplitl [Hr]; · iexact Hr
    iempintro
  isplitl [HT]; · iexact HT
  iexact HO

/-- What the region ends with is what a device holds after it. -/
theorem reg_post (c : Dev nD) : (reg m).post c ⊢ iprop(StableHlo.held (c : Thread nD τ) (Pipeline.ucRefs τ sig) (V2 m (outs m) c) ∗ EE m 1 c) := by
  show iprop(StableHlo.held (c.tc : Thread nD τ) (Pipeline.arrRefs (τ := τ) spec0) (V2 m (outs m) c) ∗ (∃ r, prngReg c r)
    ∗ (StableHlo.held (c.tc : Thread nD τ) restRefs (V2 m (outs m) c) ∗ emp) ∗ semVal (barCell c) 0 ∗ ∃ Wd, owes (c : Thread nD τ) (0 : CellTallies nD τ sig Unit) Wd) ⊢ iprop(_ ∗ E1 c)
  rw [StableHlo.held_sub_split (c.tc : Thread nD τ) arr_sub (V2 m (outs m) c)]
  unfold E1
  iintro ⟨Ha, -, ⟨Hr, -⟩, Hb, HO⟩
  isplitl [Ha Hr]; · isplitl [Ha] <;> iassumption
  isplitl [Hb]; · iexact Hb
  iexact HO

/-- The only semaphore that outlives the region is the barrier's: its counter is all there is to hold; -/
theorem unscopedSems_eq (c : Dev nD) : (unscopedSems0 c : sProp 𝕄) = semVal (barCell c) 0 := by
  unfold unscopedSems0
  rw [show (Finset.univ.filter fun sm : SemLoc sig => ¬ sm.isScoped .tc) = {SemLoc.reg barS} from by decide +kernel, BI.bigSep_singleton]

/-- and every such semaphore is the barrier's. -/
theorem unscoped_eq : ∀ sm : SemLoc sig, sm.isScoped .tc = false → sm = .reg barS := by decide +kernel

/-- What a device holds at the start of the program. -/
abbrev T₀ (c : Dev nD) : sProp 𝕄 := iprop(StableHlo.held (c : Thread nD τ) (Pipeline.ucRefs τ sig) (V0 m c) ∗ EE m 0 c)
/-- What a device holds at its end. -/
abbrev Tₙ (c : Dev nD) : sProp 𝕄 := iprop(StableHlo.held (c : Thread nD τ) (Pipeline.ucRefs τ sig) (V3 m (outs m) c) ∗ semVal (barCell c) 0)

/-- Of what the launch deals a device, all but the protocol's. -/
def bundle (c : Dev nD) : sProp 𝕄 :=
  iprop(StableHlo.held (c : Thread nD τ) (Pipeline.ucRefs τ sig) (V0 m c) ∗ creds c ∗ owes (c : Thread nD τ) (O₀ c) ∅ ∗ ∃ r, prngReg c r)

/-- The records, the device's part of the protocol and its other resources make up what it holds at the start. -/
theorem T₀_intro (κ : GSem nD τ sig → ℕ) (c : Dev nD) : iprop(records m κ ∗ (linear c ∗ bundle m c)) ⊢ T₀ m c := by
  show _ ⊢ iprop(StableHlo.held (c : Thread nD τ) (Pipeline.ucRefs τ sig) (V0 m c) ∗ E0 m c)
  unfold bundle E0 Tk
  iintro ⟨#HR, Hl, Hh, Hc, HO, Hp⟩
  isplitl [Hh]; · iexact Hh
  isplitr [HO]
  · isplitr [Hp]
    · isplitl [Hl]
      · iexists κ
        isplitr; · iapply (invs_intro m κ c); iexact HR
        iexact Hl
      iexact Hc
    iexact Hp
  iexists ∅; iexact HO

/-- The launch gives every device what it holds at the start. -/
theorem init :
    iprop((bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ ghost0 c)) ∗ levAts L lv)
      ⊢ (|={Set.univ}=> bigSep Finset.univ (T₀ m) : sProp 𝕄) := by
  have hcore (c : Dev nD) : iprop(unscopedBufs c (fun b => m ((c.tc : Thread nD τ).loc b)) ∗ unscopedSems0 c
        ∗ owes (c.tc : Thread nD τ) (O₀ c) ∅ ∗ Pipeline.launchCred O₀ c ∗ prngReg c (ρ c) ∗ ghost0 c)
      ⊢ (iprop(bundle m c ∗ (semVal (barCell c) 0 ∗ ghost0 c)) : sProp 𝕄) := by
    rw [show unscopedBufs c (fun b => m ((c.tc : Thread nD τ).loc b)) = (StableHlo.held (c : Thread nD τ) (Pipeline.ucRefs τ sig) (V0 m c) : sProp 𝕄)
      from Pipeline.unscopedBufs_held (Ix := Unit) (Name := ℕ) (U := UU) (Lvl := ℕ) c (V0 m c), unscopedSems_eq]
    unfold bundle
    iintro ⟨Hh, Hus, HO, Hcr, Hp, HG⟩
    ihave Hc := (creds_intro (F := F) c) $$ Hcr
    isplitl [Hh Hc HO Hp]
    · isplitl [Hh]; · iexact Hh
      isplitl [Hc]; · iexact Hc
      isplitl [HO]; · iexact HO
      iexists (ρ c); iexact Hp
    isplitl [Hus] <;> iassumption
  have hv : bigSep Finset.univ (fun c : Dev nD => (semVal (barCell c) 0 : sProp 𝕄)) ⊢ bigSep barCells (fun g => (semVal g 0 : sProp 𝕄)) :=
    Entails.of_eq (bigSep_map (s := Finset.univ) barEmb (Φ := fun g : GSem nD τ sig => (semVal g 0 : sProp 𝕄))).symm
  have hat : bigSep barCells (fun g => (atPos ER g 0 ∅ 0 : sProp 𝕄)) ⊢ bigSep Finset.univ (fun c : Dev nD => (atPos ER (barCell c) 0 ∅ 0 : sProp 𝕄)) :=
    Entails.of_eq (bigSep_map (s := Finset.univ) barEmb (Φ := fun g : GSem nD τ sig => (atPos ER g 0 ∅ 0 : sProp 𝕄)))
  have hop : bigSep hopCells (fun g => (openTok ER g : sProp 𝕄))
      ⊢ bigSep Finset.univ (fun c : Dev nD => bigSep Finset.univ fun t : Hop => iprop(openTok ER (sendCell c t) ∗ openTok ER (recvCell c t))) :=
    Entails.of_eq (by
      rw [bigSep_map, bigSep_univ_prod]
      refine bigSep_congr fun c _ => ?_
      rw [bigSep_univ_prod, bigSep_bool]; exact (bigSep_sep' _ _ _).symm)
  iintro ⟨H, -⟩
  ihave H' := (mono_all (F := F) (Finset.univ : Finset (Dev nD)) _ _ hcore) $$ H
  ihave H2 := (unzip_all (F := F) _ _ _) $$ H'; icases H2 with ⟨HB, H3⟩
  ihave H4 := (unzip_all (F := F) _ _ _) $$ H3; icases H4 with ⟨Hv, HG⟩
  ihave Hu := (show bigSep Finset.univ (ghost0 (F := F)) ⊢ BI.own (ER (launchOf barCells hopCells ringToks)) from
    Entails.of_eq (all_atZero (F := F) (BI.own (ER (launchOf barCells hopCells ringToks))))) $$ HG
  imod (Rounds.fund_launch ER (ringRd (ringG m)) disjoint_cells (fun g _ h => h) ringToks) $$ [Hv Hu] with ⟨%κ, -, #Hinv, #Hr, Hat, Hopen, Htok⟩
  · isplitl [Hv]
    · iapply hv $$ Hv
    · iexact Hu
  imodintro
  iapply (bigSep_with_persistent (R := records m κ) (Φ := fun c => iprop(linear c ∗ bundle m c)) fun c _ => T₀_intro m κ c)
  isplitr
  · unfold records
    isplitr; · iexact Hinv
    iexact Hr
  iapply (zip_all (F := F))
  isplitr [HB]
  · unfold linear
    ihave Htok := (toks_around (F := F)) $$ Htok
    ihave Htok := (unzip_all (F := F) _ _ _) $$ Htok; icases Htok with ⟨HtN, Htok⟩
    ihave Htok := (unzip_all (F := F) _ _ _) $$ Htok; icases Htok with ⟨HtP, HtH⟩
    iapply (zip_all (F := F)); isplitl [Hat]; · iapply hat $$ Hat
    iapply (zip_all (F := F)); isplitl [HtN]; · iexact HtN
    iapply (zip_all (F := F)); isplitl [HtP]; · iexact HtP
    iapply (zip_all (F := F)); isplitl [Hopen]; · iapply hop $$ Hopen
    iexact HtH
  · iexact HB

set_option backward.isDefEq.respectTransparency.types false in
/-- The run: from any memory with zero counters every execution ends with the arguments as launched, each device's result as
    the last valuation says, and every counter at zero. -/
theorem run_main : θ_run defs (onTc (τ := τ) (main (F := F))) ⟨m, fun _ => 0, ρ⟩ (fun r => (∀ c : Dev nD,
      (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.mem ((c.tc : Thread nD τ).loc main_v29) = V3 m (outs m) c main_v29) ∧ r.2.sem = fun _ => 0) := by
  refine Pipeline.θ_run_regions_kit_dev_sems (pcfgs (F := F)) adm (pdats m) () cellOf_inj EP defs₀ 𝒱₀ L lv m ρ main
    (segs m (outs m) 𝒱₀ L lv (EE m) () (pdats m) (reg m))
    (fun c Q => by
      rewrite [main_chain c, Seg.run_eq_chain,
        show (segs m (outs m) 𝒱₀ L lv (EE m) () (pdats m) (reg m) c).map Seg.prog = [
          StableHlo.seq (hostOps0 c),
          Prog.lift (.customCall (Pipeline.entry 0) ()),
          StableHlo.seq hostOps1 ] from rfl]
      dsimp (config := { failIfUnchanged := false }) only
      exact .rfl)
    (fun c => by simp only [segs, Seg.pipes_host, Seg.pipes_region, Seg.pipes_nil]; decide) O₀ L_of_ne ghost0 (u₀ (F := F))
    (hu₀ := by
      unfold u₀ ghost0
      iintro Hu
      ihave H := (ownU_pair _ _) $$ Hu
      icases H with ⟨HP, HX⟩
      imodintro
      isplitl [HP]; · iexact HP
      rw [all_atZero]; iexact HX)
    (T₀ := T₀ m) (Tₙ := Tₙ m)
    (hch := fun c => ⟨.rfl, reg_pre m c, reg_post m c, by
      show iprop(StableHlo.held (c : Thread nD τ) (Pipeline.ucRefs τ sig) (V3 m (outs m) c) ∗ E1 c) ⊢ iprop(Tₙ m c ∗ ∃ W, owes (c : Thread nD τ) (0 : CellTallies nD τ sig Unit) W)
      unfold E1
      iintro ⟨Hh, Hb, HO⟩
      isplitr [HO]
      · isplitl [Hh] <;> iassumption
      iexact HO⟩)
    (hinit := init m ρ)
    (QY := fun c s => ((∀ r : Ref sig .tc, Proc.devRef .tc r ∈ Pipeline.ucRefs τ sig → s.mem ((c.tc : Thread nD τ).loc r) = V3 m (outs m) c r) ∧ s.sem (barCell c) = 0))
    (hfin := fun c s' => ?_) (hQ := fun s h hs => ?_)
  · dsimp only [Tₙ]; unfold StableHlo.held
    iintro ⟨⟨Hh, Hb⟩, HSI⟩
    icombine HSI Hb gives %hb
    ihave Hr := (pointsTo_read_all (Pipeline.ucRefs τ sig) (fun b => ((c : Thread nD τ).1, b)) (V3 m (outs m) c) s') $$ [Hh HSI]
    · isplitl [Hh] <;> iassumption
    icases Hr with ⟨%h, HSI⟩
    imodintro
    isplitr
    · ipureintro
      exact ⟨fun r hr => h (Proc.devRef .tc r) hr, by simpa using hb⟩
    iexact HSI
  · refine ⟨fun c => ?_, sem_eq_zero hs fun c sm hsm => ?_⟩
    · have hr := fun r hr => (h c).1 r hr
      exact ⟨⟨(hr main_arg0 (Finset.mem_filter.mpr ⟨StableHlo.devRef_mem_tcRefs main_arg0, by decide⟩)).trans (V3_main_arg0 m (outs m) c),
        (hr main_arg1 (Finset.mem_filter.mpr ⟨StableHlo.devRef_mem_tcRefs main_arg1, by decide⟩)).trans (V3_main_arg1 m (outs m) c),
        (hr main_arg2 (Finset.mem_filter.mpr ⟨StableHlo.devRef_mem_tcRefs main_arg2, by decide⟩)).trans (V3_main_arg2 m (outs m) c),
        (hr main_arg3 (Finset.mem_filter.mpr ⟨StableHlo.devRef_mem_tcRefs main_arg3, by decide⟩)).trans (V3_main_arg3 m (outs m) c),
        (hr main_arg4 (Finset.mem_filter.mpr ⟨StableHlo.devRef_mem_tcRefs main_arg4, by decide⟩)).trans (V3_main_arg4 m (outs m) c)⟩,
        hr main_v29 (Finset.mem_filter.mpr ⟨StableHlo.devRef_mem_tcRefs main_v29, by decide⟩)⟩
    · obtain rfl := unscoped_eq sm hsm
      exact (h c).2

end Cert.KernelIdeal.Own
-- ==== Proof.Value.Attn.lean ====
module

public import Idealize.ShloMosaic.Lib.Pointwise

@[expose] public section

noncomputable section

/-! The mathematics the two programs share: one row of one head's attention, over the extended reals. -/

namespace Cert.Attn

open Idealize.ShloMosaic

/-- The mask: every query block sees every key block, but the first query block does not see the second key block. -/
def seen (i j : Fin 128) : BitVec 1 := if i.val / 64 = 0 ∧ j.val / 64 = 1 then 0#1 else 1#1

/-- A query row's scores against every key: products summed over the head's 64 features, scaled, and the masked ones replaced. -/
def scores (i : Fin 128) (q : Fin 64 → EReal) (k : Fin 128 → Fin 64 → EReal) (j : Fin 128) : EReal :=
  Scalar.select (seen i j) ((∑ d, q d * k j d) * Ideal.ofBits .f32 0x3E000000#32) (Ideal.ofBits .f32 0xCE6E6B28#32)

/-- The exponential of a row's entry less the row's maximum. -/
def expo (s : Fin 128 → EReal) (j : Fin 128) : EReal :=
  Ideal.exp (s j - Finset.univ.fold max (Ideal.ofBits .f32 0xFF800000#32) s)

/-- The softmax of a row. -/
def softmax (s : Fin 128 → EReal) (j : Fin 128) : EReal := Ideal.div (expo s j) (∑ j', expo s j')

/-- One entry of one head's context: the values' column averaged with the softmax of the query row's scores. -/
def att (i : Fin 128) (q : Fin 64 → EReal) (k : Fin 128 → Fin 64 → EReal) (v : Fin 128 → EReal) : EReal :=
  ∑ j, softmax (scores i q k) j * v j

/-- Entry `e` of the context of row `i` of batch `B`: feature `e % 64` of head `e / 64`. -/
def ctx (x : Fin 64 → Fin 128 → Fin 512 → EReal) (wq : Fin 512 → Fin 8192 → EReal) (k v : Fin 64 → Fin 128 → Fin 128 → Fin 64 → EReal)
    (B : Fin 64) (i : Fin 128) (e : Fin 8192) : EReal :=
  att i (fun d => ∑ a, x B i a * wq a ⟨e.val / 64 * 64 + d.val, by omega⟩)
    (fun j d => k B j ⟨e.val / 64, by omega⟩ d) (fun j => v B j ⟨e.val / 64, by omega⟩ ⟨e.val % 64, by omega⟩)

/-- The result: the context's product with the output weights. -/
def out (x : Fin 64 → Fin 128 → Fin 512 → EReal) (wq : Fin 512 → Fin 8192 → EReal) (k v : Fin 64 → Fin 128 → Fin 128 → Fin 64 → EReal)
    (wo : Fin 8192 → Fin 512 → EReal) (B : Fin 64) (i : Fin 128) (n : Fin 512) : EReal :=
  ∑ e, ctx x wq k v B i e * wo e n

/-- A sum over the 8192 columns, taken in 32 chunks of 256. -/
theorem sum_chunks (f : Fin 8192 → EReal) : ∑ e, f e = ∑ s : Fin 32, ∑ a : Fin 256, f ⟨256 * s.val + a.val, by omega⟩ := by
  rw [← Finset.sum_product', Finset.univ_product_univ]
  refine (Fintype.sum_equiv (finProdFinEquiv (m := 32) (n := 256)) _ _ fun p => ?_).symm
  exact congrArg f (Fin.ext (by simp only [finProdFinEquiv_apply_val]; omega))

/-- The chunks may be taken backwards around the ring from any one of them. -/
theorem sum_around (c : Fin 32) (g : Fin 32 → EReal) :
    ∑ t ∈ Finset.range 32, g ⟨(c.val + 32 - t) % 32, Nat.mod_lt _ (by decide)⟩ = ∑ s, g s := by
  rw [Finset.sum_range]
  refine Fintype.sum_bijective (fun t : Fin 32 => (⟨(c.val + 32 - t.val) % 32, Nat.mod_lt _ (by decide)⟩ : Fin 32)) ?_ _ _ fun t => rfl
  refine (Finite.injective_iff_bijective).mp fun a b h => Fin.ext ?_
  have h' := congrArg Fin.val h
  simp only at h'
  omega

end Cert.Attn

end
-- ==== Proof.Value.Chunk.lean ====
module

public import proofs.«01_k».proof.Proof.KernelIdeal.Start
public import proofs.«01_k».proof.Proof.Value.Attn

@[expose] public section

noncomputable section

/-! The kernel's accumulator, entry by entry, over the extended reals. -/

namespace Cert.KernelIdeal.Own

open Idealize.ShloMosaic Idealize.ShloMosaic.TcCoe
open Cert.KernelIdeal Cert.KernelIdeal.Gen

/-- The kernel's mask is the mask. -/
theorem maskV_apply (i j : Fin 128) : maskV (ix2 i j) = Attn.seen i j := by
  pointwise [maskV, k0_pay29, k0_pay26, k0_pay27, k0_pay28, k0_pay22, k0_pay23, k0_pay24, k0_pay25, Attn.seen]
  revert i j
  decide +kernel

/-- One head's block is the attention of its rows. -/
theorem headBlk_apply (q k v : FVec Ideal S128x64 .f32) (i : Fin 128) (d : Fin 64) :
    headBlk maskV q k v (ix2 i d) = Attn.att i (fun d => q (ix2 i d)) (fun j d => k (ix2 j d)) (fun j => v (ix2 j d)) := by
  pointwise [headBlk, maskV_apply, Attn.att, Attn.softmax, Attn.expo, Attn.scores]

/-- One head's rows of one batch, out of a chunk's queries. -/
theorem tile_apply (q : FVec Ideal S256x256 .f32) (b : Fin 2) (h : Fin 4) (i : Fin 128) (d : Fin 64) :
    tile q b h (ix2 i d) = q (ix2 ⟨128 * b.val + i.val, by omega⟩ ⟨64 * h.val + d.val, by omega⟩) := by
  pointwise [tile]
  refine congrArg q (funext fun a => ?_)
  match a with
  | 0 => rfl
  | 1 => rfl
/-- One head's columns of a chunk's keys or values. -/
theorem cols_apply (k : FVec Ideal S128x256 .f32) (h : Fin 4) (i : Fin 128) (d : Fin 64) :
    cols k h (ix2 i d) = k (ix2 i ⟨64 * h.val + d.val, by omega⟩) := by
  refine congrArg k (funext fun a => ?_)
  match a with
  | 0 => rfl
  | 1 => rfl

/-- The queries of one chunk. -/
theorem query_apply (X : Vec Ideal S256x512 .f32) (w : Vec Ideal S1x1x512x256 .f32) (r e : Fin 256) :
    k0_pay3 w X (ix2 r e) = ∑ a, X (ix2 r a) * w (ix4 0 0 a e) := by
  pointwise [k0_pay3]
/-- The keys of one chunk. -/
theorem key_apply (k : Vec Ideal S1x1x128x256 .f32) (j : Fin 128) (e : Fin 256) : k0_pay4 k (ix2 j e) = k (ix4 0 0 j e) := by
  pointwise [k0_pay4]
/-- The values of one chunk. -/
theorem value_apply (k : Vec Ideal S1x1x128x256 .f32) (j : Fin 128) (e : Fin 256) : k0_pay5 k (ix2 j e) = k (ix4 0 0 j e) := by
  pointwise [k0_pay5]
/-- What a chunk adds to the accumulator: its context's product with the transposed output weights. -/
theorem add_apply (A : Vec Ideal S256x512 .f32) (w : Vec Ideal S1x1x512x256 .f32) (C : Vec Ideal S256x256 .f32) (r : Fin 256) (n : Fin 512) :
    k0_pay32 (k0_pay2 w) A C (ix2 r n) = A (ix2 r n) + ∑ e, C (ix2 r e) * w (ix4 0 0 n e) := by
  pointwise [k0_pay32, k0_pay2]
/-- The accumulator starts at zero. -/
theorem zero_apply (r : Fin 256) (n : Fin 512) : k0_pay30 (F := Ideal) (ix2 r n) = 0 := by
  pointwise [k0_pay30]

/-- The query weights' block of a slot, at an entry; -/
theorem wqB_apply (G : CommC (F := Ideal)) (s : Fin 32) (a : Fin 512) (e : Fin 256) : wqB G s (ix4 0 0 a e) = G (ix4 s 0 a e) :=
  congrArg G (funext fun | 0 => rfl | 1 => rfl | 2 => rfl | 3 => rfl)
/-- The output weights' block of a slot, at an entry; -/
theorem woB_apply (G : CommC (F := Ideal)) (s : Fin 32) (a : Fin 512) (e : Fin 256) : woB G s (ix4 0 0 a e) = G (ix4 s 1 a e) :=
  congrArg G (funext fun | 0 => rfl | 1 => rfl | 2 => rfl | 3 => rfl)
/-- and a chunk of the keys or values. -/
theorem kvB_apply (K : Vec Ideal S2x32x128x256 .f32) (b : Fin 2) (s : Fin 32) (j : Fin 128) (e : Fin 256) : kvB K b s (ix4 0 0 j e) = K (ix4 b s j e) :=
  congrArg K (funext fun | 0 => rfl | 1 => rfl | 2 => rfl | 3 => rfl)

/-- The context of chunk `s` at an entry. -/
theorem ctxAt_apply (X : Vec Ideal S256x512 .f32) (K V : Vec Ideal S2x32x128x256 .f32) (G : CommC (F := Ideal)) (s : Fin 32) (b : Fin 2) (i : Fin 128) (e : Fin 256) :
    ctxAt maskV X K V G s (ix2 ⟨128 * b.val + i.val, by omega⟩ e)
      = Attn.att i (fun d => ∑ a, X (ix2 ⟨128 * b.val + i.val, by omega⟩ a) * G (ix4 s 0 a ⟨64 * (e.val / 64) + d.val, by omega⟩))
          (fun j d => K (ix4 b s j ⟨64 * (e.val / 64) + d.val, by omega⟩)) (fun j => V (ix4 b s j e)) := by
  unfold ctxAt
  rw [ctxOf_apply maskV _ _ _ b ⟨e.val / 64, by omega⟩ (ix2 i ⟨e.val % 64, by omega⟩) _ rfl (by show e.val = 64 * (e.val / 64) + e.val % 64; omega),
    headBlk_apply]
  simp only [tile_apply, cols_apply, query_apply, key_apply, value_apply, wqB_apply, kvB_apply]
  have he : (⟨64 * (e.val / 64) + e.val % 64, by omega⟩ : Fin 256) = e := Fin.ext (by show 64 * (e.val / 64) + e.val % 64 = e.val; omega)
  rw [he]

/-- The accumulator after `k` chunks: the sum of what they add. -/
theorem accAt_apply (X : Vec Ideal S256x512 .f32) (K V : Vec Ideal S2x32x128x256 .f32) (G : CommC (F := Ideal)) (c : Dev nD) (r : Fin 256) (n : Fin 512) (k : ℕ) :
    accAt maskV X K V G c k (ix2 r n)
      = ∑ t ∈ Finset.range k, ∑ e, ctxAt maskV X K V G (slotAt c t) (ix2 r e) * G (ix4 (slotAt c t) 1 n e) := by
  induction k with
  | zero => rw [Finset.sum_range_zero]; exact zero_apply r n
  | succ k ih =>
    rw [Finset.sum_range_succ, ← ih]
    refine (add_apply _ _ _ r n).trans (congrArg (_ + ·) (Finset.sum_congr rfl fun e _ => ?_))
    rw [woB_apply]

/-- The whole result of the loop: the sum over all chunks. -/
theorem acc_apply (X : Vec Ideal S256x512 .f32) (K V : Vec Ideal S2x32x128x256 .f32) (G : CommC (F := Ideal)) (c : Dev nD) (r : Fin 256) (n : Fin 512) :
    accAt maskV X K V G c 32 (ix2 r n) = ∑ s, ∑ e, ctxAt maskV X K V G s (ix2 r e) * G (ix4 s 1 n e) :=
  (accAt_apply X K V G c r n 32).trans (Attn.sum_around c fun s => ∑ e, ctxAt maskV X K V G s (ix2 r e) * G (ix4 s 1 n e))

end Cert.KernelIdeal.Own

end
-- ==== Proof.Value.Host.lean ====
module

public import proofs.«01_k».proof.Proof.KernelIdeal.Region
public import Idealize.ShloMosaic.Lib.StableHlo.RunClose
public import Idealize.ShloMosaic.Lib.DynamicIndex
public import Idealize.ShloMosaic.Lib.Pointwise

@[expose] public section

noncomputable section

/-! What the kernel's program prepares before the launch, and what it makes of the launch's result, entry by entry, over the extended reals. -/

namespace Cert.KernelIdeal.Own

open Idealize.ShloMosaic Idealize.ShloMosaic.TcCoe Idealize.ShloMosaic.StableHlo
open Cert.KernelIdeal Cert.KernelIdeal.Gen

variable (m : (ℓ : Loc nD τ sig) → Buf (Elt Ideal) ℓ)

/-- The first batch that a device reads of the keys and values, as the program computes it. -/
def firstBatch (c : Dev nD) : IVec S_ 32 :=
  let p : IVec S_ 32 := muli (constantI S_ 32 2#32) (Host.remui (Host.divui (constantI S_ 32 (Dev.word c)) (constantI S_ 32 1#32)) (constantI S_ 32 32#32))
  select (cmpi .slt p (constantI S_ 32 0#32)) (addi p (constantI S_ 32 64#32)) p

/-- The starts of a device's slice of the keys and values. -/
def starts (c : Dev nD) : Fin 4 → IVec S_ 32 := ![firstBatch c, constantI S_ 32 0#32, constantI S_ 32 0#32, constantI S_ 32 0#32]

/-- A device's keys or values as the launch takes them: two batches, the heads in groups of four beside their features. -/
def packKV (c : Dev nD) (x : FVec Ideal S64x128x128x64 .f32) : FVec Ideal S2x32x128x256 .f32 :=
  shapeCast S2x32x128x256
    (transpose S2x32x128x4x64 [0, 1, 3, 2, 4]
      (shapeCast S2x32x4x128x64
        (transpose S2x128x128x64 [0, 2, 1, 3]
          (Host.dynamicSlice S2x128x128x64 x (fun k => (starts c k (Shape.Idx.first h_S_)).toInt) sliceFits_S64x128x128x64_S2x128x128x64)
          transposes_S2x128x128x64_S2x128x128x64_0_2_1_3)
        shapeCasts_S2x128x128x64_S2x32x4x128x64)
      transposes_S2x32x4x128x64_S2x32x128x4x64_0_1_3_2_4)
    shapeCasts_S2x32x128x4x64_S2x32x128x256

/-- The launch's keys. -/
theorem V1_v13 (c : Dev nD) : V1 m c main_v13 = packKV c (m ((c : Thread nD τ).loc main_arg2)) := by
  unfold V1 hostOps0
  after_results_entrywise []

/-- The launch's values. -/
theorem V1_v22 (c : Dev nD) : V1 m c main_v22 = packKV c (m ((c : Thread nD τ).loc main_arg3)) := by
  unfold V1 hostOps0
  after_results_entrywise []

/-- The launch's rows. -/
theorem V1_v23 (c : Dev nD) : V1 m c main_v23 = shapeCast S256x512 (m ((c : Thread nD τ).loc main_arg0) : FVec Ideal S2x128x512 .f32) shapeCasts_S2x128x512_S256x512 := by
  unfold V1 hostOps0
  after_results_simp <;> rfl

/-- The launch's packed weights. -/
theorem V1_v27 (c : Dev nD) : V1 m c main_v27
    = concatenate S2x512x256 0
        [⟨S1x512x256, broadcastInDim S1x512x256 ![1, 2] bcast_S512x256_S1x512x256_1_2 (m ((c : Thread nD τ).loc main_arg1) : FVec Ideal S512x256 .f32)⟩,
         ⟨S1x512x256, broadcastInDim S1x512x256 ![1, 2] bcast_S512x256_S1x512x256_1_2
            (transpose S512x256 [1, 0] (m ((c : Thread nD τ).loc main_arg4) : FVec Ideal S256x512 .f32) transposes_S256x512_S512x256_1_0)⟩]
        concatenates_S1x512x256_S1x512x256_S2x512x256_d0 := by
  unfold V1 hostOps0
  after_results_simp <;> rfl

/-- The program's result is the launch's, its rows split into the two batches. -/
theorem V3_v29 (c : Dev nD) : V3 m (outs m) c main_v29 = shapeCast S2x128x512 (outV m c) shapeCasts_S256x512_S2x128x512 := by
  have h : V2 m (outs m) c main_v28 = outV m c := by
    unfold V2
    rw [outs_v28]
    exact Function.update_self ..
  unfold V3 hostOps1
  rw [← h]
  generalize V2 m (outs m) c = V
  after_results_simp <;> rfl

/-- A device's first batch is twice its number. -/
theorem firstBatch_toInt (c : Dev nD) : (firstBatch c (Shape.Idx.first h_S_)).toInt = ((2 * c.val : ℕ) : Int) := by
  revert c
  decide +kernel

/-- The launch's keys or values, entry by entry: the device's two batches, head `4 s + e / 64`, feature `e % 64`. -/
theorem packKV_apply (c : Dev nD) (x : FVec Ideal S64x128x128x64 .f32) (b : Fin 2) (s : Fin 32) (j : Fin 128) (e : Fin 256) :
    packKV c x (ix4 b s j e)
      = x (ix4 ⟨2 * c.val + b.val, by have : c.val < 32 := c.isLt; omega⟩ j ⟨4 * s.val + e.val / 64, by omega⟩ ⟨e.val % 64, by omega⟩) := by
  have hoff : S64x128x128x64.Slices ![2 * c.val, 0, 0, 0] S2x128x128x64 := by
    revert c
    decide +kernel
  unfold packKV
  rw [Host.dynamicSlice_eq_extractStridedSlice S2x128x128x64 x _ ![2 * c.val, 0, 0, 0] _ hoff fun a => by
    match a with
    | 0 => exact firstBatch_toInt c
    | 1 => rfl
    | 2 => rfl
    | 3 => rfl]
  pointwise
  exact congrArg (fun h => x (ix4 _ j h _)) (Fin.ext (by simp only; omega))

/-- Two batches' rows, one under the other. -/
theorem rows_apply (x : FVec Ideal S2x128x512 .f32) (b : Fin 2) (i : Fin 128) (a : Fin 512) :
    shapeCast S256x512 x shapeCasts_S2x128x512_S256x512 (ix2 ⟨128 * b.val + i.val, by omega⟩ a) = x (ix3 b i a) := by
  pointwise

/-- The launch's rows are the device's block, row by row. -/
theorem v23_apply (c : Dev nD) (b : Fin 2) (i : Fin 128) (a : Fin 512) :
    (V1 m c main_v23 : FVec Ideal S256x512 .f32) (ix2 ⟨128 * b.val + i.val, by omega⟩ a) = (m ((c : Thread nD τ).loc main_arg0) : FVec Ideal S2x128x512 .f32) (ix3 b i a) :=
  (congrFun (V1_v23 m c) _).trans (rows_apply _ b i a)

/-- The packed weights' first half is the device's query weights. -/
theorem v27_query (c : Dev nD) (a : Fin 512) (e : Fin 256) :
    (V1 m c main_v27 : FVec Ideal S2x512x256 .f32) (ix3 0 a e) = (m ((c : Thread nD τ).loc main_arg1) : FVec Ideal S512x256 .f32) (ix2 a e) := by
  rw [V1_v27]
  pointwise

/-- The packed weights' second half is the device's output weights, transposed. -/
theorem v27_output (c : Dev nD) (n : Fin 512) (e : Fin 256) :
    (V1 m c main_v27 : FVec Ideal S2x512x256 .f32) (ix3 1 n e) = (m ((c : Thread nD τ).loc main_arg4) : FVec Ideal S256x512 .f32) (ix2 e n) := by
  rw [V1_v27]
  pointwise

/-- Slot `s` of the ring's buffer is device `s`'s packed weights. -/
theorem ringG_apply (s : Fin 32) (t : Fin 2) (a : Fin 512) (e : Fin 256) :
    ringG m (ix4 s t a e) = (V1 m (s : Dev nD) main_v27 : FVec Ideal S2x512x256 .f32) (ix3 t a e) := by
  unfold ringG
  refine congrArg (V1 m (s : Dev nD) main_v27 : FVec Ideal S2x512x256 .f32) (funext fun a => ?_)
  match a with
  | 0 => rfl
  | 1 => rfl
  | 2 => rfl

/-- The program's result, entry by entry. -/
theorem v29_apply (c : Dev nD) (b : Fin 2) (i : Fin 128) (n : Fin 512) :
    (V3 m (outs m) c main_v29 : FVec Ideal S2x128x512 .f32) (ix3 b i n) = outV m c (ix2 ⟨128 * b.val + i.val, by omega⟩ n) := by
  rw [V3_v29]
  generalize outV m c = o
  pointwise
  exact congrArg (fun r => o (ix2 r n)) (Fin.ext (by simp only; omega))

end Cert.KernelIdeal.Own

end
-- ==== Proof.Value.Ref.lean ====
module

public import proofs.«01_k».proof.Proof.Gen.ReferenceIdeal.Run
public import proofs.«01_k».proof.Proof.Value.Attn

@[expose] public section

noncomputable section

/-! The reference's result, entry by entry. -/

namespace Cert.ReferenceIdeal.Own

open Cert.ReferenceIdeal Cert.ReferenceIdeal.Gen Idealize.ShloMosaic Idealize.ShloMosaic.TcCoe

/-- The block of 64 a row number lies in. -/
def blockOf : IVec S128 32 :=
  have n : IVec S128 32 := iotaInDim S128 32 0
  have w : IVec S128 32 := broadcastInDim S128 ![] bcast_S_S128 (constantI S_ 32 64#32)
  select (andi (cmpi .ne (signi n) (broadcastInDim S128 ![] bcast_S_S128 (signi (constantI S_ 32 64#32))))
      (cmpi .ne (Host.remsi n w) (broadcastInDim S128 ![] bcast_S_S128 (constantI S_ 32 0#32))))
    (subi (Host.divsi n w) (broadcastInDim S128 ![] bcast_S_S128 (constantI S_ 32 1#32))) (Host.divsi n w)

/-- The remainder by three, of the divisor's sign. -/
def mod3 (n : IVec S128x128 32) : IVec S128x128 32 :=
  have z : IVec S_ 32 := constantI S_ 32 0#32
  have d : IVec S_ 32 := select (cmpi .eq (constantI S_ 32 3#32) z) (constantI S_ 32 1#32) (constantI S_ 32 3#32)
  have D : IVec S128x128 32 := broadcastInDim S128x128 ![] bcast_S_S128x128 d
  have Z : IVec S128x128 32 := broadcastInDim S128x128 ![] bcast_S_S128x128 z
  have r : IVec S128x128 32 := Host.remsi n D
  select (andi (cmpi .ne (cmpi .slt r Z) (broadcastInDim S128x128 ![] bcast_S_S128x128 (cmpi .slt d z))) (cmpi .ne r Z)) (addi r D) r

/-- The mask as the reference computes it. -/
def maskR : IVec S128x128 1 :=
  have qb : IVec S128x128 32 := broadcastInDim S128x128 ![0, 1] bcast_S128x1_S128x128_0_1 (broadcastInDim S128x1 ![0] bcast_S128_S128x1_0 blockOf)
  have k1 : IVec S1x128 32 := broadcastInDim S1x128 ![1] bcast_S128_S1x128_1 blockOf
  have kb : IVec S128x128 32 := broadcastInDim S128x128 ![0, 1] bcast_S1x128_S128x128_0_1 k1
  ori (ori (cmpi .eq qb kb)
      (broadcastInDim S128x128 ![0, 1] bcast_S1x128_S128x128_0_1 (cmpi .eq k1 (broadcastInDim S1x128 ![] bcast_S_S1x128 (constantI S_ 32 0#32)))))
    (cmpi .eq (mod3 (addi qb kb)) (broadcastInDim S128x128 ![] bcast_S_S128x128 (constantI S_ 32 0#32)))

/-- Whether a row has any key. -/
def keepR : IVec S128 1 := Host.reduce IntOp.ori maskR (constantI S_ 1 0#1) reducesTo_S128x128_S128_d1 h_S_

/-- The masked scores. -/
def scoresR (x : FVec Ideal S64x128x512 .f32) (wq : FVec Ideal S512x8192 .f32) (k : FVec Ideal S64x128x128x64 .f32) : FVec Ideal S64x128x128x128 .f32 :=
  have q : FVec Ideal S64x128x128x64 .f32 := shapeCast S64x128x128x64 (Host.dotGeneral dot_S64x128x512_S512x8192_S64x128x8192_2_0_01_1_n_n none x wq) shapeCasts_S64x128x8192_S64x128x128x64
  select (broadcastInDim S64x128x128x128 ![0, 1, 2, 3] bcast_S1x1x128x128_S64x128x128x128_0_1_2_3 (broadcastInDim S1x1x128x128 ![2, 3] bcast_S128x128_S1x1x128x128_2_3 maskR))
    (mulf (Host.dotGeneral dot_S64x128x128x64_S64x128x128x64_S64x128x128x128_3_3_1_1_02_02 none q k)
      (broadcastInDim S64x128x128x128 ![] bcast_S_S64x128x128x128 (constant S_ .f32 0x3E000000#32)))
    (broadcastInDim S64x128x128x128 ![] bcast_S_S64x128x128x128 (constant S_ .f32 0xCE6E6B28#32))

/-- The exponentials of the scores less their row's maximum. -/
def expR (s : FVec Ideal S64x128x128x128 .f32) : FVec Ideal S64x128x128x128 .f32 :=
  Host.exp (subf s (broadcastInDim S64x128x128x128 ![0, 1, 2, 3] bcast_S64x128x128x1_S64x128x128x128_0_1_2_3
    (broadcastInDim S64x128x128x1 ![0, 1, 2] bcast_S64x128x128_S64x128x128x1_0_1_2
      (Host.reduce FloatOps.maximumf s (constant S_ .f32 0xFF800000#32) reducesTo_S64x128x128x128_S64x128x128_d3 h_S_))))

/-- The softmax, rows without a key replaced by zero. -/
def softR (e : FVec Ideal S64x128x128x128 .f32) : FVec Ideal S64x128x128x128 .f32 :=
  have keep : IVec S1x1x128x1 1 := broadcastInDim S1x1x128x1 ![2] bcast_S128_S1x1x128x1_2 keepR
  have sum : FVec Ideal S64x128x128x1 .f32 := select (broadcastInDim S64x128x128x1 ![0, 1, 2, 3] bcast_S1x1x128x1_S64x128x128x1_0_1_2_3 keep)
    (broadcastInDim S64x128x128x1 ![0, 1, 2] bcast_S64x128x128_S64x128x128x1_0_1_2
      (Host.reduceAdd e (constant S_ .f32 0x00000000#32) reducesTo_S64x128x128x128_S64x128x128_d3 h_S_))
    (broadcastInDim S64x128x128x1 ![] bcast_S_S64x128x128x1 (constant S_ .f32 0x3F800000#32))
  select (broadcastInDim S64x128x128x128 ![0, 1, 2, 3] bcast_S1x1x128x1_S64x128x128x128_0_1_2_3 keep)
    (Host.divf e (broadcastInDim S64x128x128x128 ![0, 1, 2, 3] bcast_S64x128x128x1_S64x128x128x128_0_1_2_3 sum))
    (broadcastInDim S64x128x128x128 ![] bcast_S_S64x128x128x128 (constant S_ .f32 0x00000000#32))

/-- The context. -/
def ctxR (v : FVec Ideal S64x128x128x64 .f32) (w : FVec Ideal S64x128x128x128 .f32) : FVec Ideal S64x128x8192 .f32 :=
  shapeCast S64x128x8192 (transpose S64x128x128x64 [0, 3, 1, 2]
      (Host.dotGeneral dot_S64x128x128x64_S64x128x128x128_S64x128x64x128_1_3_3_2_02_01 none v w) transposes_S64x128x64x128_S64x128x128x64_0_3_1_2)
    shapeCasts_S64x128x128x64_S64x128x8192

/-- The whole reference. -/
def outR (x : FVec Ideal S64x128x512 .f32) (wq : FVec Ideal S512x8192 .f32) (k v : FVec Ideal S64x128x128x64 .f32) (wo : FVec Ideal S8192x512 .f32) :
    FVec Ideal S64x128x512 .f32 :=
  Host.dotGeneral dot_S64x128x8192_S8192x512_S64x128x512_2_0_01_1_n_n none (ctxR v (softR (expR (scoresR x wq k)))) wo

/-- What the reference's run leaves is that function of the arguments. -/
theorem res_eq (m : (ℓ : Loc nD τ sig) → Buf (Elt Ideal) ℓ) (c : Dev nD) :
    Value.res_main_v44 m c = outR (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) := by
  unfold Value.res_main_v44
  rfl

/-- The reference's mask is the mask. -/
theorem maskR_apply (i j : Fin 128) : maskR (ix2 i j) = Attn.seen i j := by
  pointwise [maskR, mod3, blockOf, Attn.seen]
  revert i j
  decide +kernel

/-- Every row has a key. -/
theorem keepR_apply (i : Fin 128) : keepR (ix1 i) = 1#1 := by
  unfold keepR
  pointwise
  simp only [maskR_apply]
  revert i
  decide +kernel

/-- The masked scores of a row. -/
theorem scoresR_apply (x : FVec Ideal S64x128x512 .f32) (wq : FVec Ideal S512x8192 .f32) (k : FVec Ideal S64x128x128x64 .f32) (B : Fin 64) (H i j : Fin 128) :
    scoresR x wq k (ix4 B H i j)
      = Attn.scores i (fun d => ∑ a, x (ix3 B i a) * wq (ix2 a ⟨H.val * 64 + d.val, by omega⟩)) (fun j d => k (ix4 B j H d)) j := by
  pointwise [scoresR, maskR_apply, Attn.scores]

/-- The exponentials of a row. -/
theorem expR_apply (s : FVec Ideal S64x128x128x128 .f32) (B : Fin 64) (H i j : Fin 128) :
    expR s (ix4 B H i j) = Attn.expo (fun j => s (ix4 B H i j)) j := by
  pointwise [expR, Attn.expo]

/-- A row over its sum. -/
theorem softR_apply (e : FVec Ideal S64x128x128x128 .f32) (B : Fin 64) (H i j : Fin 128) :
    softR e (ix4 B H i j) = Ideal.div (e (ix4 B H i j)) (∑ j', e (ix4 B H i j')) := by
  pointwise [softR, keepR_apply]

/-- The context from the weights and the values. -/
theorem ctxR_apply (v : FVec Ideal S64x128x128x64 .f32) (w : FVec Ideal S64x128x128x128 .f32) (B : Fin 64) (i : Fin 128) (e : Fin 8192) :
    ctxR v w (ix3 B i e) = ∑ j, w (ix4 B ⟨e.val / 64, by omega⟩ i j) * v (ix4 B j ⟨e.val / 64, by omega⟩ ⟨e.val % 64, by omega⟩) := by
  pointwise [ctxR]
  exact Finset.sum_congr rfl fun j _ => mul_comm _ _

/-- The softmax of a row's scores. -/
theorem weights_apply (x : FVec Ideal S64x128x512 .f32) (wq : FVec Ideal S512x8192 .f32) (k : FVec Ideal S64x128x128x64 .f32) (B : Fin 64) (H i j : Fin 128) :
    softR (expR (scoresR x wq k)) (ix4 B H i j)
      = Attn.softmax (Attn.scores i (fun d => ∑ a, x (ix3 B i a) * wq (ix2 a ⟨H.val * 64 + d.val, by omega⟩)) (fun j d => k (ix4 B j H d))) j := by
  have hs : (fun j => scoresR x wq k (ix4 B H i j)) = _ := funext fun j => scoresR_apply x wq k B H i j
  have he : ∀ j, expR (scoresR x wq k) (ix4 B H i j) = _ := fun j => (expR_apply (scoresR x wq k) B H i j).trans (congrArg (Attn.expo · j) hs)
  rw [softR_apply, he, Finset.sum_congr rfl fun j _ => he j]
  rfl

/-- The context at an entry. -/
theorem context_apply (x : FVec Ideal S64x128x512 .f32) (wq : FVec Ideal S512x8192 .f32) (k v : FVec Ideal S64x128x128x64 .f32) (B : Fin 64) (i : Fin 128) (e : Fin 8192) :
    ctxR v (softR (expR (scoresR x wq k))) (ix3 B i e)
      = Attn.ctx (fun B i a => x (ix3 B i a)) (fun a e => wq (ix2 a e)) (fun B j H d => k (ix4 B j H d)) (fun B j H d => v (ix4 B j H d)) B i e := by
  have hw := fun j => weights_apply x wq k B ⟨e.val / 64, by omega⟩ i j
  generalize softR (expR (scoresR x wq k)) = w at hw ⊢
  rw [ctxR_apply]
  simp only [hw]
  unfold Attn.ctx Attn.att
  with_reducible rfl

/-- The reference's result at an entry. -/
theorem outR_apply (x : FVec Ideal S64x128x512 .f32) (wq : FVec Ideal S512x8192 .f32) (k v : FVec Ideal S64x128x128x64 .f32) (wo : FVec Ideal S8192x512 .f32)
    (B : Fin 64) (i : Fin 128) (n : Fin 512) :
    outR x wq k v wo (ix3 B i n)
      = Attn.out (fun B i a => x (ix3 B i a)) (fun a e => wq (ix2 a e)) (fun B j H d => k (ix4 B j H d)) (fun B j H d => v (ix4 B j H d)) (fun e n => wo (ix2 e n)) B i n := by
  have hc := fun e => context_apply x wq k v B i e
  unfold outR Attn.out
  generalize ctxR v (softR (expR (scoresR x wq k))) = w at hc ⊢
  pointwise
  simp only [hc]

end Cert.ReferenceIdeal.Own

end
-- ==== Proof.Value.Equal.lean ====
module

public import proofs.«01_k».proof.Proof.Value.Chunk
public import proofs.«01_k».proof.Proof.Value.Host
public import proofs.«01_k».proof.Proof.Value.Ref

@[expose] public section

noncomputable section

/-! The kernel's result on each device is that device's block of the reference's. -/

namespace Cert.KernelIdeal.Own

open Idealize.ShloMosaic Idealize.ShloMosaic.TcCoe
open Cert.KernelIdeal Cert.KernelIdeal.Gen

/-- An entry of a device's two batches. -/
theorem block_batch (x : FVec Ideal ⟨3, ![64, 128, 512]⟩ .f32) (c : Fin 32) (b : Fin 2) (i : Fin 128) (a : Fin 512) :
    Layout.block ⟨3, ![2, 128, 512]⟩ ⟨3, ![64, 128, 512]⟩ 0 32 c x (by decide) (ix3 b i a) = x (ix3 ⟨2 * c.val + b.val, by omega⟩ i a) := by
  refine congrArg x (funext fun q => ?_)
  match q with
  | 0 => exact Fin.ext (by show c.val * 2 + b.val = 2 * c.val + b.val; omega)
  | 1 => rfl
  | 2 => rfl

/-- An entry of a device's columns of the query weights. -/
theorem block_cols (w : FVec Ideal ⟨2, ![512, 8192]⟩ .f32) (s : Fin 32) (a : Fin 512) (e : Fin 256) :
    Layout.block ⟨2, ![512, 256]⟩ ⟨2, ![512, 8192]⟩ 1 32 s w (by decide) (ix2 a e) = w (ix2 a ⟨256 * s.val + e.val, by omega⟩) := by
  refine congrArg w (funext fun q => ?_)
  match q with
  | 0 => rfl
  | 1 => exact Fin.ext (by show s.val * 256 + e.val = 256 * s.val + e.val; omega)

/-- An entry of a device's rows of the output weights. -/
theorem block_rows (w : FVec Ideal ⟨2, ![8192, 512]⟩ .f32) (s : Fin 32) (e : Fin 256) (n : Fin 512) :
    Layout.block ⟨2, ![256, 512]⟩ ⟨2, ![8192, 512]⟩ 0 32 s w (by decide) (ix2 e n) = w (ix2 ⟨256 * s.val + e.val, by omega⟩ n) := by
  refine congrArg w (funext fun q => ?_)
  match q with
  | 0 => exact Fin.ext (by show s.val * 256 + e.val = 256 * s.val + e.val; omega)
  | 1 => rfl

variable (m : (ℓ : Loc nD τ sig) → Buf (Elt Ideal) ℓ)
variable (x : FVec Ideal ⟨3, ![64, 128, 512]⟩ .f32) (wq : FVec Ideal ⟨2, ![512, 8192]⟩ .f32) (k v : FVec Ideal ⟨4, ![64, 128, 128, 64]⟩ .f32)
  (wo : FVec Ideal ⟨2, ![8192, 512]⟩ .f32)

/-- The launch holds each array's block, or the whole of it, on every device. -/
structure Holds : Prop where
  x : ∀ c : Dev nD, m ((c.tc : Thread nD τ).loc main_arg0) = Layout.block ⟨3, ![2, 128, 512]⟩ ⟨3, ![64, 128, 512]⟩ 0 32 c x
  wq : ∀ c : Dev nD, m ((c.tc : Thread nD τ).loc main_arg1) = Layout.block ⟨2, ![512, 256]⟩ ⟨2, ![512, 8192]⟩ 1 32 c wq
  k : ∀ c : Dev nD, m ((c.tc : Thread nD τ).loc main_arg2) = k
  v : ∀ c : Dev nD, m ((c.tc : Thread nD τ).loc main_arg3) = v
  wo : ∀ c : Dev nD, m ((c.tc : Thread nD τ).loc main_arg4) = Layout.block ⟨2, ![256, 512]⟩ ⟨2, ![8192, 512]⟩ 0 32 c wo

variable {m x wq k v wo} (h : Holds m x wq k v wo)
include h

/-- A device's rows are its batches'. -/
theorem Holds.rows (c : Fin 32) (b : Fin 2) (i : Fin 128) (a : Fin 512) :
    (V1 m (c : Dev nD) main_v23 : FVec Ideal S256x512 .f32) (ix2 ⟨128 * b.val + i.val, by omega⟩ a) = x (ix3 ⟨2 * c.val + b.val, by omega⟩ i a) :=
  (v23_apply m c b i a).trans ((congrFun (h.x c) _).trans (block_batch x c b i a))

/-- A slot's first half is its device's columns of the query weights. -/
theorem Holds.query (s : Fin 32) (a : Fin 512) (e : Fin 256) : ringG m (ix4 s 0 a e) = wq (ix2 a ⟨256 * s.val + e.val, by omega⟩) :=
  (ringG_apply m s 0 a e).trans ((v27_query m s a e).trans ((congrFun (h.wq s) _).trans (block_cols wq s a e)))

/-- A slot's second half is its device's rows of the output weights. -/
theorem Holds.output (s : Fin 32) (n : Fin 512) (e : Fin 256) : ringG m (ix4 s 1 n e) = wo (ix2 ⟨256 * s.val + e.val, by omega⟩ n) :=
  (ringG_apply m s 1 n e).trans ((v27_output m s n e).trans ((congrFun (h.wo s) _).trans (block_rows wo s e n)))

/-- A device's keys. -/
theorem Holds.keys (c : Fin 32) (b : Fin 2) (s : Fin 32) (j : Fin 128) (e : Fin 256) :
    (V1 m (c : Dev nD) main_v13 : FVec Ideal S2x32x128x256 .f32) (ix4 b s j e)
      = k (ix4 ⟨2 * c.val + b.val, by omega⟩ j ⟨4 * s.val + e.val / 64, by omega⟩ ⟨e.val % 64, by omega⟩) :=
  (congrFun (V1_v13 m c) _).trans ((packKV_apply c _ b s j e).trans (congrFun (h.k c) _))

/-- A device's values. -/
theorem Holds.values (c : Fin 32) (b : Fin 2) (s : Fin 32) (j : Fin 128) (e : Fin 256) :
    (V1 m (c : Dev nD) main_v22 : FVec Ideal S2x32x128x256 .f32) (ix4 b s j e)
      = v (ix4 ⟨2 * c.val + b.val, by omega⟩ j ⟨4 * s.val + e.val / 64, by omega⟩ ⟨e.val % 64, by omega⟩) :=
  (congrFun (V1_v22 m c) _).trans ((packKV_apply c _ b s j e).trans (congrFun (h.v c) _))

/-- The context a device computes from slot `s` is columns `256 s …` of the whole context, at its own batches. -/
theorem Holds.ctx (c s : Fin 32) (b : Fin 2) (i : Fin 128) (e : Fin 256) :
    ctxAt maskV (V1 m (c : Dev nD) main_v23 : FVec Ideal S256x512 .f32) (V1 m (c : Dev nD) main_v13 : FVec Ideal S2x32x128x256 .f32)
        (V1 m (c : Dev nD) main_v22 : FVec Ideal S2x32x128x256 .f32) (ringG m) s (ix2 ⟨128 * b.val + i.val, by omega⟩ e)
      = Attn.ctx (fun B i a => x (ix3 B i a)) (fun a e => wq (ix2 a e)) (fun B j H d => k (ix4 B j H d)) (fun B j H d => v (ix4 B j H d))
          ⟨2 * c.val + b.val, by omega⟩ i ⟨256 * s.val + e.val, by omega⟩ := by
  rw [ctxAt_apply]
  simp only [h.rows, h.query, h.keys, h.values]
  unfold Attn.ctx
  have hH : (256 * s.val + e.val) / 64 = 4 * s.val + e.val / 64 := by omega
  have hq : ∀ d : Fin 64, 256 * s.val + (64 * (e.val / 64) + d.val) = (256 * s.val + e.val) / 64 * 64 + d.val := fun d => by omega
  have hk : ∀ d : Fin 64, 4 * s.val + (64 * (e.val / 64) + d.val) / 64 = (256 * s.val + e.val) / 64 := fun d => by omega
  have hd : ∀ d : Fin 64, (64 * (e.val / 64) + d.val) % 64 = d.val := fun d => by omega
  have hm : (256 * s.val + e.val) % 64 = e.val % 64 := by omega
  simp only [hq, hk, hd, hH, hm]

/-- The region's result, entry by entry, is the result's at the device's own batches. -/
theorem Holds.out (c : Fin 32) (b : Fin 2) (i : Fin 128) (n : Fin 512) :
    Attn.out (fun B i a => x (ix3 B i a)) (fun a e => wq (ix2 a e)) (fun B j H d => k (ix4 B j H d)) (fun B j H d => v (ix4 B j H d)) (fun e n => wo (ix2 e n))
        ⟨2 * c.val + b.val, by omega⟩ i n
      = outV m (c : Dev nD) (ix2 ⟨128 * b.val + i.val, by omega⟩ n) := by
  unfold outV Attn.out
  rw [acc_apply, Attn.sum_chunks]
  refine Finset.sum_congr rfl fun s _ => Finset.sum_congr rfl fun e _ => ?_
  rw [h.ctx, h.output]

/-- The program's result on device `c` is block `c` of the reference's result. -/
theorem Holds.result (c : Dev nD) :
    V3 m (outs m) c main_v29 = Layout.block ⟨3, ![2, 128, 512]⟩ ⟨3, ![64, 128, 512]⟩ 0 32 c (Cert.ReferenceIdeal.Own.outR x wq k v wo) := by
  have hc : ∀ (b : Fin 2) (i : Fin 128) (n : Fin 512), (V3 m (outs m) c main_v29 : FVec Ideal S2x128x512 .f32) (ix3 b i n)
      = Layout.block ⟨3, ![2, 128, 512]⟩ ⟨3, ![64, 128, 512]⟩ 0 32 c (Cert.ReferenceIdeal.Own.outR x wq k v wo) (by decide) (ix3 b i n) := fun b i n =>
    (v29_apply m c b i n).trans ((h.out c b i n).symm.trans
      ((Cert.ReferenceIdeal.Own.outR_apply x wq k v wo _ i n).symm.trans (block_batch (Cert.ReferenceIdeal.Own.outR x wq k v wo) c b i n).symm))
  funext i
  have hi : i = ix3 (i 0) (i 1) (i 2) := funext fun q => by
    match q with
    | 0 => rfl
    | 1 => rfl
    | 2 => rfl
  rw [hi]
  exact hc _ _ _

end Cert.KernelIdeal.Own

end
-- ==== Proof.lean ====
/- The claims of the certificate, assembled from the run of the ring kernel (Proof/KernelIdeal/Launch.lean, and
   Proof/Kernel/Launch.lean, the same text over the other program), the run of the reference, and the equality of the two results
   (Proof/Value/Equal.lean). -/
module

public import proofs.«01_k».proof.Defs
public import proofs.«01_k».proof.Proof.Gen.ReferenceIdeal
public import proofs.«01_k».proof.Proof.Gen.ReferenceIdeal.Run
public import proofs.«01_k».proof.Proof.KernelIdeal.Launch
public import proofs.«01_k».proof.Proof.Kernel.Launch
public import proofs.«01_k».proof.Proof.Value.Equal
public import Idealize.ShloMosaic.Lib.Quiescent
public import Idealize.ShloMosaic.Lib.StableHlo.RunHlo

@[expose] public section

noncomputable section

namespace Cert.Proof

open Idealize.ShloMosaic Idealize.ShloMosaic.TcCoe Idealize.SL Idealize.SL.Sem

/-- The kernel's frame: every execution ends, leaves the five arguments as launched and every counter at zero. -/
theorem frame_kernel : Cert.quiescent_Kernel := fun m ρ _ =>
  θ_run_mono (Cert.Kernel.Own.run_main (F := Bits) m ρ) fun _ h => ⟨fun c => (h.1 c).1, h.2⟩

/-- The idealized kernel's frame. -/
theorem frame_kernelIdeal : Cert.quiescent_KernelIdeal := fun m ρ _ =>
  θ_run_mono (Cert.KernelIdeal.Own.run_main (F := Ideal) m ρ) fun _ h => ⟨fun c => (h.1 c).1, h.2⟩

/-- The reference's frame: it declares no semaphore, and its run keeps its arguments. -/
theorem frame_referenceIdeal : Cert.quiescent_ReferenceIdeal := fun m ρ _ =>
  θ_run_mono (Cert.ReferenceIdeal.Value.run (F := Ideal) m ρ) fun r h =>
    ⟨fun c => (h c).2, sem_eq_zero_of_no_sems (by decide) r.2⟩

/-- The idealized kernel's result on device `c` is block `c` of the reference's result, for arguments cut the same way. -/
theorem algebraic : Cert.algebraic_KernelIdeal_ReferenceIdeal := fun m g m' g' _ h =>
  ⟨Cert.ReferenceIdeal.Value.res_main_v44 m' 0,
    θ_run_mono (Cert.KernelIdeal.Own.run_main (F := Ideal) m g) fun _ hr c =>
      ⟨((hr.1 c).2.trans (Cert.KernelIdeal.Own.Holds.result
          ⟨fun c => (h c).1, fun c => (h c).2.1, fun c => (h c).2.2.1, fun c => (h c).2.2.2.1, fun c => (h c).2.2.2.2⟩ c)).trans
          (congrArg (fun v => Layout.block ⟨3, ![2, 128, 512]⟩ ⟨3, ![64, 128, 512]⟩ 0 32 c v) (Cert.ReferenceIdeal.Own.res_eq m' 0).symm),
        (hr.1 c).1⟩,
    θ_run_mono (Cert.ReferenceIdeal.Value.run (F := Ideal) m' g') fun _ hr => hr 0⟩

/-- The certificate's claim. -/
theorem claim : Cert.Claim :=
  ⟨Cert.Kernel.Gen.facts, Cert.KernelIdeal.Gen.facts, Cert.ReferenceIdeal.Gen.facts,
    frame_kernel, frame_kernelIdeal, frame_referenceIdeal, trivial, algebraic⟩

end Cert.Proof
